-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) (main_arg2 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S_ : Shape := ⟨0, ![]⟩
abbrev S8192x8 : Shape := ⟨2, ![8192, 8]⟩
abbrev S1 : Shape := ⟨1, ![1]⟩
abbrev S8x8192 : Shape := ⟨2, ![8, 8192]⟩
abbrev S3x8192 : Shape := ⟨2, ![3, 8192]⟩
abbrev S8192 : Shape := ⟨1, ![8192]⟩
abbrev S8192x1 : Shape := ⟨2, ![8192, 1]⟩
abbrev S1x8192 : Shape := ⟨2, ![1, 8192]⟩
abbrev S128x8 : Shape := ⟨2, ![128, 8]⟩
abbrev S128x1 : Shape := ⟨2, ![128, 1]⟩
abbrev S128x8192 : Shape := ⟨2, ![128, 8192]⟩
abbrev S128x128 : Shape := ⟨2, ![128, 128]⟩
abbrev S128 : Shape := ⟨1, ![128]⟩
abbrev S1x128x1 : Shape := ⟨3, ![1, 128, 1]⟩
abbrev S1x1x1 : Shape := ⟨3, ![1, 1, 1]⟩

abbrev nBuf : Space → Nat
  | .hbm => 30
  | .vmem => 9
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192x8, .f32⟩
  | .hbm, ⟨5, _⟩ => ⟨S_, .i32⟩
  | .hbm, ⟨6, _⟩ => ⟨S1, .i32⟩
  | .hbm, ⟨7, _⟩ => ⟨S8192x8, .f32⟩
  | .hbm, ⟨8, _⟩ => ⟨S_, .f32⟩
  | .hbm, ⟨9, _⟩ => ⟨S8x8192, .f32⟩
  | .hbm, ⟨10, _⟩ => ⟨S3x8192, .f32⟩
  | .hbm, ⟨11, _⟩ => ⟨S_, .i32⟩
  | .hbm, ⟨12, _⟩ => ⟨S1, .i32⟩
  | .hbm, ⟨13, _⟩ => ⟨S8x8192, .f32⟩
  | .hbm, ⟨14, _⟩ => ⟨S_, .f32⟩
  | .hbm, ⟨15, _⟩ => ⟨S8x8192, .f32⟩
  | .hbm, ⟨16, _⟩ => ⟨S3x8192, .f32⟩
  | .hbm, ⟨17, _⟩ => ⟨S_, .i32⟩
  | .hbm, ⟨18, _⟩ => ⟨S1, .i32⟩
  | .hbm, ⟨19, _⟩ => ⟨S8x8192, .f32⟩
  | .hbm, ⟨20, _⟩ => ⟨S8192x3, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x3, .f32⟩
  | .hbm, ⟨25, _⟩ => ⟨S_, .f32⟩
  | .hbm, ⟨26, _⟩ => ⟨S8192, .f32⟩
  | .hbm, ⟨27, _⟩ => ⟨S1x8192, .f32⟩
  | .hbm, ⟨28, _⟩ => ⟨S8192x1, .f32⟩
  | .hbm, ⟨29, _⟩ => ⟨S8192, .f32⟩
  | .local _ .vmem, ⟨0, _⟩ => ⟨S128x8, .f32⟩
  | .local _ .vmem, ⟨1, _⟩ => ⟨S128x8, .f32⟩
  | .local _ .vmem, ⟨2, _⟩ => ⟨S8x8192, .f32⟩
  | .local _ .vmem, ⟨3, _⟩ => ⟨S8x8192, .f32⟩
  | .local _ .vmem, ⟨4, _⟩ => ⟨S128x1, .f32⟩
  | .local _ .vmem, ⟨5, _⟩ => ⟨S128x1, .f32⟩
  | .local _ .vmem, ⟨6, _⟩ => ⟨S1x8192, .f32⟩
  | .local _ .vmem, ⟨7, _⟩ => ⟨S128x1, .f32⟩
  | .local _ .vmem, ⟨8, _⟩ => ⟨S128x1, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_cst_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_cst_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_4 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_5 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_v0 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x3 : Shape := ⟨2, ![8192, 3]⟩
abbrev S_ : Shape := ⟨0, ![]⟩
abbrev S8192 : Shape := ⟨1, ![8192]⟩
abbrev S8192x1 : Shape := ⟨2, ![8192, 1]⟩
abbrev S3x8192 : Shape := ⟨2, ![3, 8192]⟩
abbrev S8192x8192 : Shape := ⟨2, ![8192, 8192]⟩
abbrev S1x8192 : Shape := ⟨2, ![1, 8192]⟩
abbrev S8192x11 : Shape := ⟨2, ![8192, 11]⟩
abbrev S8192x11x1 : Shape := ⟨3, ![8192, 11, 1]⟩
abbrev S8192x11x3 : Shape := ⟨3, ![8192, 11, 3]⟩
abbrev S8192x1x3 : Shape := ⟨3, ![8192, 1, 3]⟩

abbrev nBuf : Space → Nat
  | .hbm => 64
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S8192x3, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S3x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x3, .f32⟩
  | .hbm, ⟨15, _⟩ => ⟨S_, .f32⟩
  | .hbm, ⟨16, _⟩ => ⟨S8192, .f32⟩
  | .hbm, ⟨17, _⟩ => ⟨S1x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x11, .f32⟩
  | .hbm, ⟨22, _⟩ => ⟨S8192x11, .i32⟩
  | .hbm, ⟨23, _⟩ => ⟨S8192x11, .f32⟩
  | .hbm, ⟨24, _⟩ => ⟨S_, .f32⟩
  | .hbm, ⟨25, _⟩ => ⟨S8192x11, .f32⟩
  | .hbm, ⟨26, _⟩ => ⟨S8192x11, .f32⟩
  | .hbm, ⟨27, _⟩ => ⟨S8192x11, .f32⟩
  | .hbm, ⟨28, _⟩ => ⟨S_, .i32⟩
  | .hbm, ⟨29, _⟩ => ⟨S8192x11, .i32⟩
  | .hbm, ⟨30, _⟩ => ⟨S8192x11, .i1⟩
  | .hbm, ⟨31, _⟩ => ⟨S_, .i32⟩
  | .hbm, ⟨32, _⟩ => ⟨S8192x11, .i32⟩
  | .hbm, ⟨33, _⟩ => ⟨S8192x11, .i32⟩
  | .hbm, ⟨34, _⟩ => ⟨S8192x11, .i32⟩
  | .hbm, ⟨35, _⟩ => ⟨S8192x11x1, .i32⟩
  | .hbm, ⟨36, _⟩ => ⟨S8192x11x3, .f32⟩
  | .hbm, ⟨37, _⟩ => ⟨S8192x1x3, .f32⟩
  | .hbm, ⟨38, _⟩ => ⟨S8192x11x3, .f32⟩
  | .hbm, ⟨39, _⟩ => ⟨S8192x11x3, .f32⟩
  | .hbm, ⟨40, _⟩ => ⟨S_, .i32⟩
  | .hbm, ⟨41, _⟩ => ⟨S8192x11, .i32⟩
  | .hbm, ⟨42, _⟩ => ⟨S8192x11, .i1⟩
  | .hbm, ⟨43, _⟩ => ⟨S_, .i32⟩
  | .hbm, ⟨44, _⟩ => ⟨S8192x11, .i32⟩
  | .hbm, ⟨45, _⟩ => ⟨S8192x11, .i32⟩
  | .hbm, ⟨46, _⟩ => ⟨S8192x11, .i32⟩
  | .hbm, ⟨47, _⟩ => ⟨S8192x11x1, .i32⟩
  | .hbm, ⟨48, _⟩ => ⟨S8192x11x3, .f32⟩
  | .hbm, ⟨49, _⟩ => ⟨S8192x11, .f32⟩
  | .hbm, ⟨50, _⟩ => ⟨S_, .f32⟩
  | .hbm, ⟨51, _⟩ => ⟨S8192x11, .f32⟩
  | .hbm, ⟨52, _⟩ => ⟨S8192x11, .i1⟩
  | .hbm, ⟨53, _⟩ => ⟨S8192x11, .i32⟩
  | .hbm, ⟨54, _⟩ => ⟨S_, .i32⟩
  | .hbm, ⟨55, _⟩ => ⟨S8192, .i32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .i1⟩
  | .hbm, ⟨60, _⟩ => ⟨S8192x1, .f32⟩
  | .hbm, ⟨61, _⟩ => ⟨S8192, .f32⟩
  | .hbm, ⟨62, _⟩ => ⟨S8192, .f32⟩
  | .hbm, ⟨63, _⟩ => ⟨S8192, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proof.PI.Block.lean ====
/-
  What one run of the kernel's body leaves in the output block, as a value: the body's steps are gathered
  into a few definitions over the five input blocks, and the body is restated as five loads, one store
  of `fastOut`, and — when some row's count is not eleven — one more store of `exactOut`.
-/
module

public import proofs.«01_k».proof.Proof.Gen.KernelIdeal.Frame
public import proofs.«01_k».proof.Proof.Gen.KernelIdeal.Skeleton

@[expose] public section

noncomputable section

namespace Cert.Proof.PI

open Cert.KernelIdeal Cert.KernelIdeal.Gen
open Idealize.ShloMosaic Idealize.ShloMosaic.TcCoe
open Idealize.SL.Sem

variable {F : FTy → Type} [FloatOps F]

/-- The values carried from one stretch of the running-minimum loop to the next. -/
structure Carry (F : FTy → Type) where
  a : FVec F S128x128 .f32
  b : FVec F S128x128 .f32
  c : FVec F S128x128 .f32
  d : FVec F S128x128 .f32
  e : FVec F S128x128 .f32

/-- Three lane vectors: the three smallest values kept per lane. -/
structure Lanes (F : FTy → Type) where
  a : FVec F S128x128 .f32
  b : FVec F S128x128 .f32
  c : FVec F S128x128 .f32

/-- The running-minimum loop, one definition per stretch of the printed body. -/
def carry5 (v16 : FVec F S128x8192 .f32) (v45 : FVec F S128x128 .f32) : Carry F :=
  ⟨k0_pay71 v16 v45, k0_pay72 v16 v45, k0_pay74 v16 v45, k0_pay75 v16 v45, k0_pay76 v16 v45⟩
def carry6 (v16 : FVec F S128x8192 .f32) (s : Carry F) : Carry F :=
  ⟨k0_pay113 v16 s.a s.c s.d, k0_pay114 v16 s.a s.b s.c s.d s.e, k0_pay116 v16 s.d, k0_pay117 v16 s.d, k0_pay118 v16 s.a s.c s.d⟩
def carry7 (v16 : FVec F S128x8192 .f32) (s : Carry F) : Carry F :=
  ⟨k0_pay155 v16 s.a s.c s.d, k0_pay156 v16 s.a s.b s.c s.d s.e, k0_pay158 v16 s.d, k0_pay159 v16 s.d, k0_pay160 v16 s.a s.c s.d⟩
def carry8 (v16 : FVec F S128x8192 .f32) (s : Carry F) : Carry F :=
  ⟨k0_pay197 v16 s.a s.c s.d, k0_pay198 v16 s.a s.b s.c s.d s.e, k0_pay200 v16 s.d, k0_pay201 v16 s.d, k0_pay202 v16 s.a s.c s.d⟩
def carry9 (v16 : FVec F S128x8192 .f32) (s : Carry F) : Carry F :=
  ⟨k0_pay239 v16 s.a s.c s.d, k0_pay240 v16 s.a s.b s.c s.d s.e, k0_pay242 v16 s.d, k0_pay243 v16 s.d, k0_pay244 v16 s.a s.c s.d⟩
def carry10 (v16 : FVec F S128x8192 .f32) (s : Carry F) : Carry F :=
  ⟨k0_pay281 v16 s.a s.c s.d, k0_pay282 v16 s.a s.b s.c s.d s.e, k0_pay284 v16 s.d, k0_pay285 v16 s.d, k0_pay286 v16 s.a s.c s.d⟩

/-- What is carried into the last stretch of the loop. -/
def carryEnd (v16 : FVec F S128x8192 .f32) (v45 : FVec F S128x128 .f32) : Carry F :=
  carry10 v16 (carry9 v16 (carry8 v16 (carry7 v16 (carry6 v16 (carry5 v16 v45)))))

/-- The block's column of smallest squared distances, from what the last stretch is entered with. -/
def nearest (v16 : FVec F S128x8192 .f32) (s : Carry F) : FVec F S128x1 .f32 :=
  k0_pay301 v16 s.a s.b s.c s.d s.e

/-- The lane vectors after the removal rounds, down to the last three. -/
def lanes11 (v16 : FVec F S128x8192 .f32) (s : Carry F) : Lanes F :=
  ⟨k0_pay306 v16 s.a s.b s.c s.d s.e, k0_pay307 v16 s.a s.b s.c s.d s.e, k0_pay308 v16 s.a s.b s.c s.d s.e⟩
def lanes12 (l : Lanes F) : Lanes F := ⟨k0_pay318 l.a l.b l.c, k0_pay319 l.a l.b l.c, k0_pay320 l.a l.b l.c⟩
def lanes13 (l : Lanes F) : Lanes F := ⟨k0_pay330 l.a l.b l.c, k0_pay331 l.a l.b l.c, k0_pay332 l.a l.b l.c⟩
def lanesEnd (v16 : FVec F S128x8192 .f32) (s : Carry F) : Lanes F := lanes13 (lanes12 (lanes11 v16 s))

/-- The count column (the whole part of the packed sum), and what is left of the packed sum after it. -/
def countCol (v16 : FVec F S128x8192 .f32) (v44 : IVec S128x8192 1) (l : Lanes F) : FVec F S128x1 .f32 :=
  k0_pay334 v16 v44 l.a l.b l.c
def restCol (v16 : FVec F S128x8192 .f32) (v44 : IVec S128x8192 1) (l : Lanes F) : FVec F S128x1 .f32 :=
  k0_pay335 v16 v44 l.a l.b l.c

/-- The exact path's column of signed distances: eleven rounds of "take the first smallest, replace it by infinity". -/
def exactCol (v16 : FVec F S128x8192 .f32) (v44 : IVec S128x8192 1) (v428 : FVec F S128x1 .f32) : FVec F S128x1 .f32 :=
  have i : IVec S128x8192 32 := iota .tc S128x8192 32 [1] iota_S128x8192_d1_w32
  have v661 : IVec S128x8192 1 := k0_pay10 v16
  have v663 : FVec F S128x8192 .f32 := k0_pay11 v16
  have v667 : IVec S128x8192 1 := k0_pay12 v16
  have v702 : FVec F S128x8192 .f32 := k0_pay18 i v663 v667 8192#32
  have v712 : IVec S128x8192 1 := k0_pay19 i v663 v667 8192#32
  have v713 : IVec S128x8192 1 := k0_pay20 i v661 v663 v667 8192#32
  have k : F .f32 := Scalar.ofBits .f32 0x7F800000#32
  k0_pay4 v44 v428 i (k0_pay27 i v702 v712 v713 k) (k0_pay28 i v702 v712 k) (k0_pay29)

/-- Whether the exact path runs, from the count column. -/
def exactRuns (cnt : FVec F S128x1 .f32) : Prop :=
  Scalar.cmpi .ne (Scalar.extui (Scalar.cmpf .ogt (k0_pay3 cnt) (Scalar.ofBits .f32 0x00000000#32)) : BitVec 32) 0#32 = 1#1

instance (cnt : FVec F S128x1 .f32) : Decidable (exactRuns cnt) := by unfold exactRuns; infer_instance

section Blocks

variable (x0 : FVec F S128x8 .f32) (x1 x2 : FVec F S8x8192 .f32) (x3 : FVec F S128x1 .f32) (x4 : FVec F S1x8192 .f32)

/-- The block's squared distances, its sign mask, and the loop's entry and exit values, from the five input blocks. -/
def dist2 : FVec F S128x8192 .f32 := k0_pay32 x0 x1 x3 x4
def negMask : IVec S128x8192 1 := k0_pay33 x0 x1 x2
def carryOf : Carry F := carryEnd (dist2 x0 x1 x3 x4) (k0_pay34 x0 x1 x3 x4)
def minOf : FVec F S128x1 .f32 := nearest (dist2 x0 x1 x3 x4) (carryOf x0 x1 x3 x4)
def lanesOf : Lanes F := lanesEnd (dist2 x0 x1 x3 x4) (carryOf x0 x1 x3 x4)
def cntOf : FVec F S128x1 .f32 := countCol (dist2 x0 x1 x3 x4) (negMask x0 x1 x2) (lanesOf x0 x1 x3 x4)
/-- The column stored first. -/
def fastOut : FVec F S128x1 .f32 :=
  k0_pay2 (minOf x0 x1 x3 x4) (restCol (dist2 x0 x1 x3 x4) (negMask x0 x1 x2) (lanesOf x0 x1 x3 x4))
/-- The column stored over it when the exact path runs. -/
def exactOut : FVec F S128x1 .f32 := exactCol (dist2 x0 x1 x3 x4) (negMask x0 x1 x2) (minOf x0 x1 x3 x4)
/-- What the body leaves in the output block. -/
def blockOut : FVec F S128x1 .f32 :=
  if exactRuns (cntOf x0 x1 x2 x3 x4) then exactOut x0 x1 x2 x3 x4 else fastOut x0 x1 x2 x3 x4

end Blocks

/-- The body, restated: five loads, the store of `fastOut`, and the store of `exactOut` under its condition. -/
def bodyProg (arg1 : Memref sig .tc .vmem S128x8 .f32) (arg2 arg3 : Memref sig .tc .vmem S8x8192 .f32)
    (arg4 : Memref sig .tc .vmem S128x1 .f32) (arg5 : Memref sig .tc .vmem S1x8192 .f32) (arg6 : Memref sig .tc .vmem S128x1 .f32) :
    Prog (TpuEff nD τ sig (Elt F) Λ₀ .tc) PUnit := do
  let x0 : Vec F S128x8 .f32 ← Prog.lift (.load arg1 (Rect.unit (s := S128x8) ![0, 0] S128x8.size inb_S128x8_S128x8_0_0).toLoadRect (View.loadsAt_vmem h_S128x8))
  let x1 : Vec F S8x8192 .f32 ← Prog.lift (.load arg2 (Rect.unit (s := S8x8192) ![0, 0] S8x8192.size inb_S8x8192_S8x8192_0_0).toLoadRect (View.loadsAt_vmem h_S8x8192))
  let x2 : Vec F S8x8192 .f32 ← Prog.lift (.load arg3 (Rect.unit (s := S8x8192) ![0, 0] S8x8192.size inb_S8x8192_S8x8192_0_0).toLoadRect (View.loadsAt_vmem h_S8x8192))
  let x3 : Vec F S128x1 .f32 ← Prog.lift (.load arg4 (Rect.unit (s := S128x1) ![0, 0] S128x1.size inb_S128x1_S128x1_0_0).toLoadRect (View.loadsAt_vmem h_S128x1))
  let x4 : Vec F S1x8192 .f32 ← Prog.lift (.load arg5 (Rect.unit (s := S1x8192) ![0, 0] S1x8192.size inb_S1x8192_S1x8192_0_0).toLoadRect (View.loadsAt_vmem h_S1x8192))
  let _ : Vec F S128x1 .f32 ← Prog.lift (.load arg6 (Rect.unit (s := S128x1) ![0, 0] S128x1.size inb_S128x1_S128x1_0_0).toLoadRect (View.loadsAt_vmem h_S128x1))
  Prog.lift (.store arg6 (Rect.unit (s := S128x1) ![0, 0] S128x1.size inb_S128x1_S128x1_0_0) (fastOut x0 x1 x2 x3 x4) Finset.univ (View.stores_vmem_bits_univ h_S128x1 rfl) (.inl rfl))
  if exactRuns (cntOf x0 x1 x2 x3 x4) then do
    let _ : Vec F S128x1 .f32 ← Prog.lift (.load arg6 (Rect.unit (s := S128x1) ![0, 0] S128x1.size inb_S128x1_S128x1_0_0).toLoadRect (View.loadsAt_vmem h_S128x1))
    Prog.lift (.store arg6 (Rect.unit (s := S128x1) ![0, 0] S128x1.size inb_S128x1_S128x1_0_0) (exactOut x0 x1 x2 x3 x4) Finset.univ (View.stores_vmem_bits_univ h_S128x1 rfl) (.inl rfl))
    pure ⟨⟩
  else do
    pure ⟨⟩
  pure ⟨⟩

set_option maxRecDepth 65536 in
/-- The printed body is the restated one. -/
theorem body_eq (i : grid0.Coords) (arg1 : Memref sig .tc .vmem S128x8 .f32) (harg1 : arg1.IsWhole) (arg2 : Memref sig .tc .vmem S8x8192 .f32) (harg2 : arg2.IsWhole) (arg3 : Memref sig .tc .vmem S8x8192 .f32) (harg3 : arg3.IsWhole) (arg4 : Memref sig .tc .vmem S128x1 .f32) (harg4 : arg4.IsWhole) (arg5 : Memref sig .tc .vmem S1x8192 .f32) (harg5 : arg5.IsWhole) (arg6 : Memref sig .tc .vmem S128x1 .f32) (harg6 : arg6.IsWhole) :
    cc0__sdf_block_kernel (F := F) i arg1 harg1 arg2 harg2 arg3 harg3 arg4 harg4 arg5 harg5 arg6 harg6
      = bodyProg arg1 arg2 arg3 arg4 arg5 arg6 := by
  rw [cc0__sdf_block_kernel_eq_skeleton]
  unfold cc0__sdf_block_kernel_skel
  rw [k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part1_eq_skeleton, k0_part2_eq_skeleton, k0_part3_eq_skeleton]
  rfl

end Cert.Proof.PI

end
-- ==== Proof.PI.Body.lean ====
/-
  The body's triple, the proof data of the pipeline (each input block left in place, the output block left at
  `blockOut` of the input blocks), the body obligation, and the launch: every run ends with the arrays at their
  computed contents, the arguments as they were and every semaphore counter at zero.
-/
module

public import proofs.«01_k».proof.Proof.PI.Block
public import Idealize.ShloMosaic.Lib.Pipeline.Frame
public import Idealize.ShloMosaic.Lib.VecWindow

@[expose] public section

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body, run once -/

section Run

variable (arg1 : Memref sig .tc .vmem S128x8 .f32) (arg2 arg3 : Memref sig .tc .vmem S8x8192 .f32)
  (arg4 : Memref sig .tc .vmem S128x1 .f32) (arg5 : Memref sig .tc .vmem S1x8192 .f32) (arg6 : Memref sig .tc .vmem S128x1 .f32)

/-- From the five input blocks held at `x0 … x4` and the output block at anything, the body leaves the inputs as they
    are and the output block at `blockOut`. -/
theorem kernelRun (c : Dev nD) (x0 : FVec F S128x8 .f32) (x1 x2 : FVec F S8x8192 .f32) (x3 : FVec F S128x1 .f32)
    (x4 : FVec F S1x8192 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (blockOut x0 x1 x2 x3 x4)) -∗ K ⟨⟩))
      ⊢ wp frame (wpE (defs₀ (F := F)) Variants.none c none) Set.univ (bodyProg arg1 arg2 arg3 arg4 arg5 arg6) K := by
  unfold bodyProg owns
  iintro ⟨⟨%f1, %h1, H1⟩, ⟨%f2, %h2, H2⟩, ⟨%f3, %h3, H3⟩, ⟨%f4, %h4, H4⟩, ⟨%f5, %h5, H5⟩, ⟨%d, %f6, -, H6⟩, Hk⟩
  sl_exec
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  iexists _; isplitr; swap; · iexact H6
  ipureintro
  unfold kernelRun.sl.H6_1
  rw [(View.readAt_full arg1.view f1 inb_S128x8_S128x8_0_0).trans h1, (View.readAt_full arg2.view f2 inb_S8x8192_S8x8192_0_0).trans h2,
    (View.readAt_full arg3.view f3 inb_S8x8192_S8x8192_0_0).trans h3, (View.readAt_full arg4.view f4 inb_S128x1_S128x1_0_0).trans h4,
    (View.readAt_full arg5.view f5 inb_S1x8192_S1x8192_0_0).trans h5]
  unfold blockOut
  split
  · exact View.read_writes_full _ _ _ _ _
  · exact View.read_writes_full _ _ _ _ _

end Run

/-! ## The proof data and the body obligation -/

/-- What the body leaves in the output block at point `t`. -/
def outBlk (c : Dev nD) (t : Fin cfg0.N) : FVec F S128x1 .f32 :=
  blockOut (iblk m c 0 t) (iblk m c 1 t) (iblk m c 2 t) (iblk m c 3 t) (iblk m c 4 t)

/-- The proof data: arrays as the region finds them; the inputs' blocks left in place, the output's at `outBlk`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => outBlk m c t
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlk m c t := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the point, from what the pipeline hands it to what it takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl]
  unfold bodyAt0
  rw [body_eq, after_0, after_1, after_2, after_3, after_4, after_5]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c)]
  iintro ⟨HΦ, HO, ⟨%d0, H0⟩, ⟨%d1, H1⟩, ⟨%d2, H2⟩, ⟨%d3, H3⟩, ⟨%d4, H4⟩, ⟨%d5, H5⟩⟩
  iapply (kernelRun (st0_0 t) (st0_1 t) (st0_2 t) (st0_3 t) (st0_4 t) (st0_5 t) c (iblk m c 0 t) (iblk m c 1 t) (iblk m c 2 t)
    (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
/-- Every run ends with the arrays at what the proof data compute, the buffers no window stages at what the lines after the region
    leave there, and every semaphore counter at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run leaves the three arguments as they were and every semaphore counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩, h.2⟩)
    (run_main m ρ)

end Cert.Proof.PI

end
-- ==== Proof.Frames.lean ====
/- The frame claims of the three programs: each run ends, leaves the three arguments as they were, and leaves every semaphore counter
   at zero. The two kernels' are their launches' (P/Body.lean, PI/Body.lean); the reference is host operations only. -/
module

public import proofs.«01_k».proof.Defs
public import proofs.«01_k».proof.Proof.P.Body
public import proofs.«01_k».proof.Proof.PI.Body
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The kernel's frame, on the machine's words. -/
theorem frame_kernel : Cert.quiescent_Kernel := fun m ρ _ => P.frame m ρ

/-- The idealized kernel's frame, on the extended reals. -/
theorem frame_kernelIdeal : Cert.quiescent_KernelIdeal := fun m ρ _ => PI.frame m ρ

/-- The reference's run, with the counters: it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Consts.lean ====
/- The values of the constants the two programs spell as 32-bit words. -/
module

public import Idealize.ShloMosaic.PureOps.Ideal

@[expose] public section

noncomputable section

namespace Cert.Proof.Consts

open Idealize.ShloMosaic

theorem top_eq : Ideal.ofBits .f32 0x7F800000#32 = (⊤ : EReal) := by
  simp [Ideal.ofBits, Ideal.ieee]
theorem bot_eq : Ideal.ofBits .f32 0xFF800000#32 = (⊥ : EReal) := by
  simp [Ideal.ofBits, Ideal.ieee]
theorem one_eq : Ideal.ofBits .f32 0x3F800000#32 = ((1 : ℝ) : EReal) := by
  simp only [Ideal.ofBits, Ideal.ieee, BitVec.reduceExtractLsb', BitVec.reduceToNat]; norm_num [← EReal.coe_mul, ← EReal.coe_add, -one_div]; decide
theorem one16_eq : Ideal.ofBits .f32 0x3F880000#32 = ((1 + 1 / 16 : ℝ) : EReal) := by
  simp only [Ideal.ofBits, Ideal.ieee, BitVec.reduceExtractLsb', BitVec.reduceToNat]; norm_num [← EReal.coe_mul, ← EReal.coe_add, -one_div]; decide
theorem two_eq : Ideal.ofBits .f32 0x40000000#32 = ((2 : ℝ) : EReal) := by
  simp only [Ideal.ofBits, Ideal.ieee, BitVec.reduceExtractLsb', BitVec.reduceToNat]; norm_num [← EReal.coe_mul, ← EReal.coe_add, -one_div]; decide
theorem half11_eq : Ideal.ofBits .f32 0x40B00000#32 = ((11 / 2 : ℝ) : EReal) := by
  simp only [Ideal.ofBits, Ideal.ieee, BitVec.reduceExtractLsb', BitVec.reduceToNat]; norm_num [← EReal.coe_mul, ← EReal.coe_add, -one_div]; decide
theorem eleven_eq : Ideal.ofBits .f32 0x41300000#32 = ((11 : ℝ) : EReal) := by
  simp only [Ideal.ofBits, Ideal.ieee, BitVec.reduceExtractLsb', BitVec.reduceToNat]; norm_num [← EReal.coe_mul, ← EReal.coe_add, -one_div]; decide
theorem sixteen_eq : Ideal.ofBits .f32 0x41800000#32 = ((16 : ℝ) : EReal) := by
  simp only [Ideal.ofBits, Ideal.ieee, BitVec.reduceExtractLsb', BitVec.reduceToNat]; norm_num [← EReal.coe_mul, ← EReal.coe_add, -one_div]; decide
theorem zero_eq : Ideal.ofBits .f32 0x00000000#32 = (0 : EReal) := by
  simp [Ideal.ofBits, Ideal.ieee]

/-- A finite sum of reals, read in the extended reals. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

end Cert.Proof.Consts

end
-- ==== Proof.Finite.lean ====
/- The precondition, read back: its side conditions hold, and under it every coordinate of every query and every point is a real number. -/
module

public import proofs.«01_k».proof.Pre_finite_points
public import proofs.«01_k».proof.Proof.Consts
public import Idealize.ShloMosaic.Lib.ReduceAll
public import Idealize.ShloMosaic.Lib.WordCmp
public import Idealize.ShloMosaic.PureOps.Ideal.Laws

@[expose] public section

noncomputable section

namespace Cert.Proof.Finite

open Idealize.ShloMosaic Cert.Pre_finite_points

/-- The side conditions the precondition's operations state. -/
theorem facts : Cert.Pre_finite_points.Facts where
  bcast_S_S8192x3 := by decide
  reducesTo_S8192x3_S_d0_1 := by decide
  h_S_ := by decide

/-- An extended real whose absolute value is below infinity is a real number. -/
theorem real_of_abs_lt (x : EReal) (h : max x (-x) < ⊤) : ∃ r : ℝ, x = r := by
  induction x using EReal.rec with
  | bot => simp at h
  | coe r => exact ⟨r, rfl⟩
  | top => simp at h

/-- An array all of whose absolute values compare below infinity holds real numbers. -/
theorem real_of_reduce [Cert.Pre_finite_points.Facts] (x : FVec Ideal S8192x3 .f32)
    (h : Host.reduce IntOp.andi (cmpf .olt (Host.absf x) (broadcastInDim S8192x3 ![] Facts.bcast_S_S8192x3 (constant S_ .f32 0x7F800000#32)))
      (constantI S_ 1 1#1) Facts.reducesTo_S8192x3_S_d0_1 Facts.h_S_ (fun a => a.elim0) = 1#1) (i : S8192x3.Idx) : ∃ r : ℝ, x i = r := by
  haveI : Subsingleton S_.Idx := ⟨fun a b => funext fun c => c.elim0⟩
  have h1 := Host.reduce_andi_all _ _ _ _ _ h i
  refine real_of_abs_lt _ ?_
  rw [← Consts.top_eq]
  exact (WordCmp.ofBool_decide_eq_one_iff _).mp h1

/-- Under the precondition the first two arrays hold real numbers. -/
theorem real_of_pre [Cert.Pre_finite_points.Facts] (q p n : FVec Ideal S8192x3 .f32) (h : fn (F := Ideal) q p n = fun _ => 1#1) :
    (∀ i, ∃ r : ℝ, q i = r) ∧ ∀ i, ∃ r : ℝ, p i = r := by
  have h0 := congrFun h (fun a => a.elim0)
  unfold fn at h0
  obtain ⟨h1, h2⟩ := IntOp.andi_eq_one.1 h0
  exact ⟨real_of_reduce q h1, real_of_reduce p h2⟩

end Cert.Proof.Finite

end
-- ==== Proof.PI.Pad.lean ====
/- Padding: the host lines before the kernel write a matrix into the first rows or columns of a matrix of zeros. -/
module

public import proofs.«01_k».proof.Proof.Gen.KernelIdeal.Frame
public import Idealize.ShloMosaic.Lib.Routing.OpsOne

@[expose] public section

noncomputable section

namespace Cert.Proof.PI

open Cert.KernelIdeal Cert.KernelIdeal.Gen
open Idealize.ShloMosaic Idealize.ShloMosaic.TcCoe
open Idealize.ShloMosaic.ValueIdx Idealize.ShloMosaic.Routing

/-- A window that starts at the words `idx`, all zero, starts at zero on every axis. -/
theorem start_zero {s si u : Shape} {w : ℕ} (d : ScatterDims s si u) (idx : IVec si w) (h : ∀ i, (idx i).toInt = 0) (j : u.Idx) (a : Fin s.rank) :
    d.start j idx a = 0 := by
  unfold ScatterDims.start
  split
  · exact h _
  · rfl

/-- A matrix written whole over another from its corner, read at an entry: the written matrix's entry where it has one, the other's elsewhere. -/
theorem scatter_corner {α : Type} {R C U W w : ℕ} {si : Shape} (d : ScatterDims (shape2 R C) si (shape2 U W))
    (h0 : ∀ j : (shape2 U W).Idx, d.window j 0 = (j 0).val) (h1 : ∀ j : (shape2 U W).Idx, d.window j 1 = (j 1).val)
    (x : (shape2 R C).Idx → α) (idx : IVec si w) (hidx : ∀ i, (idx i).toInt = 0) (upd : (shape2 U W).Idx → α) (r : Fin R) (c : Fin C) :
    Host.scatter d (fun _ b => b) x idx upd (ix2 r c)
      = if h : r.val < U ∧ c.val < W then upd (ix2 ⟨r.val, h.1⟩ ⟨c.val, h.2⟩) else x (ix2 r c) := by
  have lands : ∀ j : (shape2 U W).Idx, d.resultIdx? j idx = some (ix2 r c) ↔ (j 0).val = r.val ∧ (j 1).val = c.val := fun j => by
    rw [resultIdx?_ix2, start_zero d idx hidx, start_zero d idx hidx, h0, h1]
    omega
  by_cases h : r.val < U ∧ c.val < W
  · rw [dif_pos h]
    refine scatter_set_hit d x idx upd _ _ (fun j hj => congrArg upd ?_) (ix2 ⟨r.val, h.1⟩ ⟨c.val, h.2⟩) ((lands _).mpr ⟨rfl, rfl⟩)
    obtain ⟨a, b⟩ := (lands j).mp hj
    rw [eq_ix2 j]
    exact congrArg₂ ix2 (Fin.ext a) (Fin.ext b)
  · rw [dif_neg h]
    refine scatter_set_miss d x idx upd _ fun j hj => h ?_
    obtain ⟨a, b⟩ := (lands j).mp hj
    rw [← a, ← b]
    exact ⟨(j 0).isLt, (j 1).isLt⟩

/-- A matrix of three columns written over a matrix of eight, at an entry. -/
theorem pad_columns {α : Type} (x : S8192x8.Idx → α) (idx : IVec S1 32) (hidx : ∀ i, (idx i).toInt = 0) (upd : S8192x3.Idx → α) (r : Fin 8192) (c : Fin 8) :
    Host.scatter scatter_S8192x8_S1_S8192x3_01_n_1_0 (fun _ b => b) x idx upd (ix2 r c) = if h : c.val < 3 then upd (ix2 r ⟨c.val, h⟩) else x (ix2 r c) := by
  rw [scatter_corner (U := 8192) (W := 3) scatter_S8192x8_S1_S8192x3_01_n_1_0 (fun _ => rfl) (fun _ => rfl) x idx hidx upd r c]
  by_cases h : c.val < 3
  · rw [dif_pos ⟨r.isLt, h⟩, dif_pos h]
  · rw [dif_neg fun q => h q.2, dif_neg h]

/-- A matrix of three rows written over a matrix of eight, at an entry. -/
theorem pad_rows {α : Type} (x : S8x8192.Idx → α) (idx : IVec S1 32) (hidx : ∀ i, (idx i).toInt = 0) (upd : S3x8192.Idx → α) (r : Fin 8) (c : Fin 8192) :
    Host.scatter scatter_S8x8192_S1_S3x8192_01_n_0_0 (fun _ b => b) x idx upd (ix2 r c) = if h : r.val < 3 then upd (ix2 ⟨r.val, h⟩ c) else x (ix2 r c) := by
  rw [scatter_corner (U := 3) (W := 8192) scatter_S8x8192_S1_S3x8192_01_n_0_0 (fun _ => rfl) (fun _ => rfl) x idx hidx upd r c]
  by_cases h : r.val < 3
  · rw [dif_pos ⟨h, c.isLt⟩, dif_pos h]
  · rw [dif_neg fun q => h q.1, dif_neg h]

end Cert.Proof.PI

end
-- ==== Proof.Spec.lean ====
/- What one query point's result is, in plain mathematics: from the row `d` of its squared distances to the points, and the row `neg`
   of the points' votes for "inside". The eleven nearest points are the eleven first in the order of the distance and, among equal
   distances, of the index. Any eleven points that leave out none coming before one of them are these eleven, whichever way they were found. -/
module

public import Idealize.ShloMosaic.PureOps.Ideal
public import Mathlib.Data.Finset.Max
public import Mathlib.Data.Finset.Lattice.Fold

@[expose] public section

noncomputable section

namespace Cert.Proof.Spec

open Idealize.ShloMosaic

variable {n : ℕ}

/-- Point `j` comes before point `k`: it is nearer, or as near with a lower index. -/
def Before (d : Fin n → EReal) (j k : Fin n) : Prop := d j < d k ∨ (d j = d k ∧ j < k)

open Classical in
/-- The eleven nearest points: those that fewer than eleven come before. -/
def nearest11 (d : Fin n → EReal) : Finset (Fin n) :=
  Finset.univ.filter fun k => (Finset.univ.filter fun j => Before d j k).card < 11

/-- A set of points that leaves out none coming before one of its members. -/
def Closed (d : Fin n → EReal) (S : Finset (Fin n)) : Prop := ∀ k ∈ S, ∀ j, Before d j k → j ∈ S

theorem not_before_self (d : Fin n → EReal) (k : Fin n) : ¬ Before d k k := fun h =>
  h.elim (fun h => lt_irrefl _ h) fun h => lt_irrefl _ h.2

/-- Of two different points one comes before the other. -/
theorem before_or (d : Fin n → EReal) {j k : Fin n} (h : j ≠ k) : Before d j k ∨ Before d k j := by
  rcases lt_trichotomy (d j) (d k) with h1 | h1 | h1
  · exact .inl (.inl h1)
  · rcases lt_or_gt_of_ne h with h2 | h2
    · exact .inl (.inr ⟨h1, h2⟩)
    · exact .inr (.inr ⟨h1.symm, h2⟩)
  · exact .inr (.inl h1)

/-- Eleven points that leave out none coming before one of them are the eleven nearest. -/
theorem eq_nearest11 {d : Fin n → EReal} {S : Finset (Fin n)} (hS : Closed d S) (hc : S.card = 11) : S = nearest11 d := by
  classical
  ext k
  simp only [nearest11, Finset.mem_filter, Finset.mem_univ, true_and]
  constructor
  · intro hk
    rw [← hc]
    refine Finset.card_lt_card ⟨fun j hj => hS k hk j (by simpa using hj), fun hsub => ?_⟩
    exact not_before_self d k (by simpa using hsub hk)
  · intro hlt
    by_contra hk
    refine absurd hlt (not_lt.mpr ?_)
    rw [← hc]
    refine Finset.card_le_card fun j hj => ?_
    have hne : j ≠ k := fun h => hk (h ▸ hj)
    rcases before_or d hne with h | h
    · simpa using h
    · exact absurd (hS j hj k h) hk

open Classical in
/-- How many of the eleven nearest points vote "inside". -/
def votes (d : Fin n → EReal) (neg : Fin n → Prop) : ℕ := ((nearest11 d).filter neg).card

open Classical in
/-- The signed distance: the distance to the nearest point, negative if at least six of the eleven nearest vote "inside". -/
def value (d : Fin n → EReal) (neg : Fin n → Prop) : EReal :=
  if 6 ≤ votes d neg then 0 - Ideal.sqrt (max (Finset.univ.inf d) 0) else Ideal.sqrt (max (Finset.univ.inf d) 0)

/-! ## Points within a radius -/

open Classical in
/-- The points no further than `t`. -/
def within (d : Fin n → EReal) (t : EReal) : Finset (Fin n) := Finset.univ.filter fun k => d k ≤ t

theorem mem_within (d : Fin n → EReal) (t : EReal) (k : Fin n) : k ∈ within d t ↔ d k ≤ t := by simp [within]

theorem within_closed (d : Fin n → EReal) (t : EReal) : Closed d (within d t) := fun k hk j hj => by
  simp only [within, Finset.mem_filter, Finset.mem_univ, true_and] at hk ⊢
  exact hj.elim (fun h => h.le.trans hk) fun h => h.1.le.trans hk

/-! ## Removing the first smallest, round by round -/

open Classical in
/-- The index of the smallest entry, the lowest one of several, as a set. -/
def firstMin (w : Fin n → EReal) : Finset (Fin n) :=
  Finset.univ.filter fun k => w k = Finset.univ.inf w ∧ ∀ j < k, w j ≠ Finset.univ.inf w

open Classical in
/-- The row with the entries of `M` replaced by infinity. -/
def without (d : Fin n → EReal) (M : Finset (Fin n)) (k : Fin n) : EReal := if k ∈ M then ⊤ else d k

/-- The set of entries removed in the first `r` rounds. -/
def removed (d : Fin n → EReal) : ℕ → Finset (Fin n)
  | 0 => ∅
  | r + 1 => removed d r ∪ firstMin (without d (removed d r))

/-- A non-empty row has exactly one first smallest entry. -/
theorem exists_firstMin (w : Fin n → EReal) (hn : 0 < n) :
    ∃ k, firstMin w = {k} ∧ (∀ j, w k ≤ w j) ∧ ∀ j < k, w k < w j := by
  classical
  have hne : (Finset.univ : Finset (Fin n)).Nonempty := ⟨⟨0, hn⟩, Finset.mem_univ _⟩
  obtain ⟨i, -, hi⟩ := Finset.exists_mem_eq_inf _ hne w
  set S := Finset.univ.filter fun k => w k = Finset.univ.inf w with hS
  have hSne : S.Nonempty := ⟨i, by simp [hS, hi]⟩
  obtain ⟨k, hk, hmin⟩ := S.exists_minimal hSne
  have hkw : w k = Finset.univ.inf w := by simpa [hS] using hk
  have hlow : ∀ j < k, w j ≠ Finset.univ.inf w := fun j hj h =>
    absurd (hmin (show j ∈ S by simp [hS, h]) hj.le) (not_le.mpr hj)
  have hle : ∀ j, w k ≤ w j := fun j => hkw.trans_le (Finset.inf_le (Finset.mem_univ j))
  refine ⟨k, ?_, hle, fun j hj => lt_of_le_of_ne (hle j) fun h => hlow j hj (h.symm.trans hkw)⟩
  ext j
  simp only [firstMin, Finset.mem_filter, Finset.mem_univ, true_and, Finset.mem_singleton]
  constructor
  · rintro ⟨h1, h2⟩
    rcases lt_trichotomy j k with h | h | h
    · exact absurd h1 (hlow j h)
    · exact h
    · exact absurd hkw (h2 k h)
  · rintro rfl; exact ⟨hkw, hlow⟩

/-- One round on a row of finite entries: a new entry is removed, and the removed entries still leave out none coming before one of them. -/
theorem round {d : Fin n → EReal} (hd : ∀ k, d k ≠ ⊤) {M : Finset (Fin n)} (hM : Closed d M) (hc : M.card < n) :
    Closed d (M ∪ firstMin (without d M)) ∧ (M ∪ firstMin (without d M)).card = M.card + 1 := by
  classical
  obtain ⟨k, hk, hle, hlt⟩ := exists_firstMin (without d M) (by omega)
  obtain ⟨i, hi⟩ : ∃ i, i ∉ M := by
    by_contra h
    push Not at h
    have : M = Finset.univ := Finset.eq_univ_of_forall h
    rw [this, Finset.card_univ, Fintype.card_fin] at hc
    exact lt_irrefl _ hc
  have hkM : k ∉ M := fun h => by
    have := hle i
    simp only [without, if_pos h, if_neg hi, top_le_iff] at this
    exact hd i this
  rw [hk]
  refine ⟨fun a ha j hj => ?_, ?_⟩
  · rcases Finset.mem_union.mp ha with ha | ha
    · exact Finset.mem_union_left _ (hM a ha j hj)
    · rw [Finset.mem_singleton] at ha; subst ha
      by_contra hj'
      have hjM : j ∉ M := fun h => hj' (Finset.mem_union_left _ h)
      have h1 := hle j
      simp only [without, if_neg hkM, if_neg hjM] at h1
      rcases hj with h | ⟨h, h2⟩
      · exact absurd h (not_lt.mpr h1)
      · have := hlt j h2
        simp only [without, if_neg hkM, if_neg hjM] at this
        exact absurd h this.ne'
  · rw [Finset.card_union_of_disjoint (by simpa using hkM), Finset.card_singleton]

/-- After `r ≤ n` rounds on a row of finite entries, `r` entries are removed, and they leave out none coming before one of them. -/
theorem removed_spec {d : Fin n → EReal} (hd : ∀ k, d k ≠ ⊤) : ∀ r ≤ n, Closed d (removed d r) ∧ (removed d r).card = r
  | 0, _ => ⟨fun k hk => absurd hk (by simp [removed]), by simp [removed]⟩
  | r + 1, hr => by
    obtain ⟨h1, h2⟩ := removed_spec hd r (by omega)
    have := round hd h1 (by omega)
    rw [h2] at this
    exact this

/-- Eleven rounds remove the eleven nearest. -/
theorem removed_eleven {d : Fin n → EReal} (hd : ∀ k, d k ≠ ⊤) (hn : 11 ≤ n) : removed d 11 = nearest11 d :=
  eq_nearest11 (removed_spec hd 11 hn).1 (removed_spec hd 11 hn).2

/-- The next round's row is this round's with its first smallest entry replaced by infinity. -/
theorem without_succ (d : Fin n → EReal) (r : ℕ) (k : Fin n) [Decidable (k ∈ firstMin (without d (removed d r)))] :
    without d (removed d (r + 1)) k = if k ∈ firstMin (without d (removed d r)) then ⊤ else without d (removed d r) k := by
  classical
  simp only [without, removed, Finset.mem_union]
  by_cases h1 : k ∈ removed d r <;> by_cases h2 : k ∈ firstMin (without d (removed d r)) <;>
    simp_all [without]

end Cert.Proof.Spec

end
-- ==== Proof.Rows.lean ====
/- The rows of the table that the kernel and the reference both decide by: the squared distance from query `i` to point `k`, in the expanded
   form both compute it in, and whether point `k` votes that query `i` is inside. -/
module

public import proofs.«01_k».proof.Proof.Spec
public import proofs.«01_k».proof.Proof.Consts

@[expose] public section

noncomputable section

namespace Cert.Proof.Rows

open Idealize.ShloMosaic

/-- The square of the length of row `i`. -/
def sq (a : Fin 8192 → Fin 3 → EReal) (i : Fin 8192) : EReal := ∑ j, a i j * a i j

/-- The squared distance from query `i` to point `k`, expanded. -/
def D (q p : Fin 8192 → Fin 3 → EReal) (i k : Fin 8192) : EReal := sq q i - ((2 : ℝ) : EReal) * ∑ j, q i j * p k j + sq p k

/-- The side of point `k`'s tangent plane on which query `i` lies: negative is inside. -/
def side (q p n : Fin 8192 → Fin 3 → EReal) (i k : Fin 8192) : EReal := ∑ j, (q i j - p k j) * n k j

/-- Point `k` votes that query `i` is inside. -/
def inside (q p n : Fin 8192 → Fin 3 → EReal) (i k : Fin 8192) : Prop := side q p n i k < 0

/-- No squared distance between rows of real numbers is infinite. -/
theorem D_ne_top {q p : Fin 8192 → Fin 3 → EReal} (hq : ∀ i j, ∃ x : ℝ, q i j = x) (hp : ∀ i j, ∃ x : ℝ, p i j = x) (i k : Fin 8192) :
    D q p i k ≠ ⊤ := by
  choose u hu using hq
  choose v hv using hp
  have e : D q p i k = ((((∑ j, u i j * u i j) - 2 * ∑ j, u i j * v k j + ∑ j, v k j * v k j : ℝ)) : EReal) := by
    unfold D sq
    simp only [hu, hv, ← EReal.coe_mul, Consts.sum_coe, ← EReal.coe_sub, ← EReal.coe_add]
  rw [e]
  exact EReal.coe_ne_top _

open Classical in
/-- What both programs return at query `i`. -/
def out (q p n : Fin 8192 → Fin 3 → EReal) (i : Fin 8192) : EReal := Spec.value (D q p i) (inside q p n i)

end Cert.Proof.Rows

end
-- ==== Proof.PI.Host.lean ====
/- The arrays the kernel's windows read, as the host lines before it prepare them, entry by entry; and a block of each. -/
module

public import proofs.«01_k».proof.Proof.PI.Pad
public import proofs.«01_k».proof.Proof.Rows
public import Idealize.ShloMosaic.Lib.StableHlo.Run
public import Idealize.ShloMosaic.Lib.Pointwise
public import Idealize.ShloMosaic.PureOps.Ideal.Laws

@[expose] public section

noncomputable section

namespace Cert.Proof.PI

open Cert.KernelIdeal Cert.KernelIdeal.Gen
open Idealize.ShloMosaic Idealize.ShloMosaic.TcCoe
open Idealize.SL.Sem

/-- An array of 8192 rows of three, as a function of row and column. -/
def rows (x : FVec Ideal S8192x3 .f32) (i : Fin 8192) (j : Fin 3) : EReal := x (ix2 i j)

variable {F : FTy → Type} [FloatOps F]

/-! ## What the host lines compute -/

/-- The queries, padded with zeros to eight columns. -/
def padQ (x : FVec F S8192x3 .f32) : FVec F S8192x8 .f32 :=
  Host.scatter scatter_S8192x8_S1_S8192x3_01_n_1_0 (fun _ b => b) (broadcastInDim S8192x8 ![] bcast_S_S8192x8 (constant S_ .f32 0x00000000#32))
    (broadcastInDim S1 ![] bcast_S_S1 (constantI S_ 32 0#32)) x
/-- The points or the normals, transposed and padded with zeros to eight rows. -/
def padT (x : FVec F S8192x3 .f32) : FVec F S8x8192 .f32 :=
  Host.scatter scatter_S8x8192_S1_S3x8192_01_n_0_0 (fun _ b => b) (broadcastInDim S8x8192 ![] bcast_S_S8x8192 (constant S_ .f32 0x00000000#32))
    (broadcastInDim S1 ![] bcast_S_S1 (constantI S_ 32 0#32)) (transpose S3x8192 [1, 0] x transposes_S8192x3_S3x8192_1_0)
/-- The squared lengths of the rows. -/
def lens (x : FVec F S8192x3 .f32) : FVec F S8192 .f32 :=
  Host.reduceAdd (mulf x x) (constant S_ .f32 0x00000000#32) reducesTo_S8192x3_S8192_d1 h_S_
/-- The same as a column, and as a row. -/
def lenCol (x : FVec F S8192x3 .f32) : FVec F S8192x1 .f32 := broadcastInDim S8192x1 ![0] bcast_S8192_S8192x1_0 (lens x)
def lenRow (x : FVec F S8192x3 .f32) : FVec F S1x8192 .f32 := broadcastInDim S1x8192 ![1] bcast_S8192_S1x8192_1 (lens x)

section Arrays

variable (m : (ℓ : Loc nD τ sig) → Buf (Elt F) ℓ)

/-- The five arrays the windows read, from the arguments. -/
theorem V_v2 (c : Dev nD) : V m c main_call0_v2 = padQ (m ((c : Thread nD τ).loc main_arg0)) := by
  unfold V; show StableHlo.after hostOps0 _ _ = _; unfold hostOps0
  after_results_simp
  simp only [StableHlo.TRef.ofBuf_toBuf]
  exact eq_of_heq (cast_heq _ _)
theorem V_v6 (c : Dev nD) : V m c main_call0_v6 = padT (m ((c : Thread nD τ).loc main_arg1)) := by
  unfold V; show StableHlo.after hostOps0 _ _ = _; unfold hostOps0
  after_results_simp
  simp only [StableHlo.TRef.ofBuf_toBuf]
  exact eq_of_heq (cast_heq _ _)
theorem V_v10 (c : Dev nD) : V m c main_call0_v10 = padT (m ((c : Thread nD τ).loc main_arg2)) := by
  unfold V; show StableHlo.after hostOps0 _ _ = _; unfold hostOps0
  after_results_simp
  simp only [StableHlo.TRef.ofBuf_toBuf]
  exact eq_of_heq (cast_heq _ _)
theorem V_v13 (c : Dev nD) : V m c main_call0_v13 = lenCol (m ((c : Thread nD τ).loc main_arg0)) := by
  unfold V; show StableHlo.after hostOps0 _ _ = _; unfold hostOps0
  after_results_simp
  simp only [StableHlo.TRef.ofBuf_toBuf]
  exact eq_of_heq (cast_heq _ _)
theorem V_v16 (c : Dev nD) : V m c main_call0_v16 = lenRow (m ((c : Thread nD τ).loc main_arg1)) := by
  unfold V; show StableHlo.after hostOps0 _ _ = _; unfold hostOps0
  after_results_simp
  simp only [StableHlo.TRef.ofBuf_toBuf]
  exact eq_of_heq (cast_heq _ _)

end Arrays

/-! ## Their entries -/

/-- The host lines' start word is zero. -/
theorem startWord (i : S1.Idx) : (broadcastInDim S1 ![] bcast_S_S1 (constantI S_ 32 0#32) i : BitVec 32).toInt = 0 := by
  show (0#32 : BitVec 32).toInt = 0
  decide

/-- The padded queries: three columns of coordinates, then zeros. -/
theorem padQ_apply (x : FVec Ideal S8192x3 .f32) (i : Fin 8192) (j : Fin 8) :
    padQ x (ix2 i j) = if h : j.val < 3 then rows x i ⟨j.val, h⟩ else 0 := by
  refine (pad_columns _ _ startWord _ i j).trans ?_
  by_cases h : j.val < 3
  · rw [dif_pos h, dif_pos h]
    rfl
  · rw [dif_neg h, dif_neg h]
    exact Consts.zero_eq

/-- The transpose of an array of 8192 rows of three, at an entry. -/
theorem transpose_rows (x : FVec Ideal S8192x3 .f32) (j : Fin 3) (k : Fin 8192) :
    transpose S3x8192 [1, 0] x transposes_S8192x3_S3x8192_1_0 (ix2 j k) = rows x k j := by
  unfold rows
  pointwise []

/-- The padded points or normals: three rows of coordinates, then zeros. -/
theorem padT_apply (x : FVec Ideal S8192x3 .f32) (j : Fin 8) (k : Fin 8192) :
    padT x (ix2 j k) = if h : j.val < 3 then rows x k ⟨j.val, h⟩ else 0 := by
  refine (pad_rows _ _ startWord _ j k).trans ?_
  by_cases h : j.val < 3
  · rw [dif_pos h, dif_pos h]
    exact transpose_rows x ⟨j.val, h⟩ k
  · rw [dif_neg h, dif_neg h]
    exact Consts.zero_eq

/-- The squared lengths, as a column and as a row. -/
theorem lenCol_apply (x : FVec Ideal S8192x3 .f32) (i : Fin 8192) : lenCol x (ix2 i 0) = Rows.sq (rows x) i := by
  unfold Rows.sq rows
  pointwise [lenCol, lens]

theorem lenRow_apply (x : FVec Ideal S8192x3 .f32) (k : Fin 8192) : lenRow x (ix2 0 k) = Rows.sq (rows x) k := by
  unfold Rows.sq rows
  pointwise [lenRow, lens]

end Cert.Proof.PI

end
-- ==== Proof.PI.Lanes.lean ====
/- The block's running minima. The body walks the 64 chunks of 128 columns and keeps, per lane, the smallest values met so far; the
   printed stretches of it are one step iterated over the chunks. The column of smallest squared distances is the minimum of each row. -/
module

public import proofs.«01_k».proof.Proof.PI.Block
public import proofs.«01_k».proof.Proof.Consts
public import Idealize.ShloMosaic.Lib.Pointwise
public import Idealize.ShloMosaic.PureOps.Ideal.Laws

@[expose] public section

noncomputable section

namespace Cert.Proof.PI

open Cert.KernelIdeal Cert.KernelIdeal.Gen
open Idealize.ShloMosaic Idealize.ShloMosaic.TcCoe
open Idealize.SL.Sem

section Steps

variable {F : FTy → Type} [FloatOps F]

theorem slices_chunk : ∀ j : Fin 64, S128x8192.Slices ![0, 128 * j.val] S128x128 := by decide

/-- Columns `128 j` to `128 j + 127`. -/
def chunk (v16 : FVec F S128x8192 .f32) (j : Fin 64) : FVec F S128x128 .f32 :=
  extractStridedSlice S128x128 ![0, 128 * j.val] v16 (slices_chunk j)

/-- One chunk taken into the three values kept per lane. -/
def step (s : Lanes F) (v : FVec F S128x128 .f32) : Lanes F :=
  ⟨minimumf s.a v, minimumf s.b (maximumf s.a v), minimumf s.c (maximumf s.b (maximumf s.a v))⟩

/-- A list of chunks taken in, in order. -/
def run (v16 : FVec F S128x8192 .f32) (l : List (Fin 64)) (s : Lanes F) : Lanes F := l.foldl (fun s j => step s (chunk v16 j)) s

/-- A stretch of the body ends in the middle of a step: what it carries over. -/
def mid (s : Lanes F) (v : FVec F S128x128 .f32) : Carry F :=
  ⟨s.b, s.c, maximumf s.a v, minimumf s.a v, maximumf s.b (maximumf s.a v)⟩

/-- The three values kept per lane at the loop's start: the first chunk, and infinity twice. -/
def start (v45 : FVec F S128x128 .f32) : Lanes F := ⟨v45, k0_pay35, k0_pay35⟩

theorem carry5_eq (v16 : FVec F S128x8192 .f32) (v45 : FVec F S128x128 .f32) :
    carry5 v16 v45 = mid (run v16 [1, 2, 3, 4, 5, 6, 7, 8, 9] (start v45)) (chunk v16 10) := rfl
theorem carry6_eq (v16 : FVec F S128x8192 .f32) (s : Lanes F) (v : FVec F S128x128 .f32) :
    carry6 v16 (mid s v) = mid (run v16 [11, 12, 13, 14, 15, 16, 17, 18, 19] (step s v)) (chunk v16 20) := rfl
theorem carry7_eq (v16 : FVec F S128x8192 .f32) (s : Lanes F) (v : FVec F S128x128 .f32) :
    carry7 v16 (mid s v) = mid (run v16 [21, 22, 23, 24, 25, 26, 27, 28, 29] (step s v)) (chunk v16 30) := rfl
theorem carry8_eq (v16 : FVec F S128x8192 .f32) (s : Lanes F) (v : FVec F S128x128 .f32) :
    carry8 v16 (mid s v) = mid (run v16 [31, 32, 33, 34, 35, 36, 37, 38, 39] (step s v)) (chunk v16 40) := rfl
theorem carry9_eq (v16 : FVec F S128x8192 .f32) (s : Lanes F) (v : FVec F S128x128 .f32) :
    carry9 v16 (mid s v) = mid (run v16 [41, 42, 43, 44, 45, 46, 47, 48, 49] (step s v)) (chunk v16 50) := rfl
theorem carry10_eq (v16 : FVec F S128x8192 .f32) (s : Lanes F) (v : FVec F S128x128 .f32) :
    carry10 v16 (mid s v) = mid (run v16 [51, 52, 53, 54, 55, 56, 57, 58, 59] (step s v)) (chunk v16 60) := rfl

/-- The row minimum of the three lane vectors. -/
def lanesMin (s : Lanes F) : FVec F S128x1 .f32 :=
  shapeCast S128x1 (multiReduction .minimumf [1] S128 (minimumf (minimumf s.a s.b) s.c) 0x7F800000#32 reduces_S128x128_S128 (.inl rfl) rfl)
    shapeCasts_S128_S128x1

theorem nearest_eq (v16 : FVec F S128x8192 .f32) (s : Lanes F) (v : FVec F S128x128 .f32) :
    nearest v16 (mid s v) = lanesMin (run v16 [61, 62, 63] (step s v)) := rfl

/-- The chunks after the first. -/
def chunks : List (Fin 64) := (List.finRange 64).tail

/-- The column of smallest squared distances is the row minimum of the lane vectors after all 64 chunks. -/
theorem nearest_all (v16 : FVec F S128x8192 .f32) (v45 : FVec F S128x128 .f32) :
    nearest v16 (carryEnd v16 v45) = lanesMin (run v16 chunks (start v45)) := by
  have hsplit : chunks = [1, 2, 3, 4, 5, 6, 7, 8, 9] ++ 10 :: ([11, 12, 13, 14, 15, 16, 17, 18, 19] ++ 20 ::
      ([21, 22, 23, 24, 25, 26, 27, 28, 29] ++ 30 :: ([31, 32, 33, 34, 35, 36, 37, 38, 39] ++ 40 ::
      ([41, 42, 43, 44, 45, 46, 47, 48, 49] ++ 50 :: ([51, 52, 53, 54, 55, 56, 57, 58, 59] ++ 60 :: [61, 62, 63]))))) := by decide
  unfold carryEnd
  rw [carry5_eq, carry6_eq, carry7_eq, carry8_eq, carry9_eq, carry10_eq, nearest_eq, hsplit]
  simp only [run, List.foldl_append, List.foldl_cons (a := (10 : Fin 64)), List.foldl_cons (a := (20 : Fin 64)), List.foldl_cons (a := (30 : Fin 64)),
    List.foldl_cons (a := (40 : Fin 64)), List.foldl_cons (a := (50 : Fin 64)), List.foldl_cons (a := (60 : Fin 64))]

end Steps

/-! ## The row minimum -/

section Values

/-- A minimum folded from infinity over all indices is the infimum. -/
theorem fold_min_eq {n : ℕ} (f : Fin n → EReal) : Finset.univ.fold min (Ideal.ofBits .f32 0x7F800000#32) f = Finset.univ.inf f := by
  rw [Consts.top_eq]; rfl

/-- After a list of chunks the first lane value is at most every entry met, and at most what it was. -/
theorem run_le (v16 : FVec Ideal S128x8192 .f32) (i : S128x128.Idx) : ∀ (l : List (Fin 64)) (s : Lanes Ideal),
    (∀ j ∈ l, (run v16 l s).a i ≤ chunk v16 j i) ∧ (run v16 l s).a i ≤ s.a i
  | [], s => ⟨fun _ h => absurd h List.not_mem_nil, le_rfl⟩
  | j :: l, s => by
    obtain ⟨h1, h2⟩ := run_le v16 i l (step s (chunk v16 j))
    have h3 : (run v16 (j :: l) s).a i ≤ min (s.a i) (chunk v16 j i) := h2
    refine ⟨fun k hk => ?_, h3.trans (min_le_left _ _)⟩
    rcases List.mem_cons.mp hk with rfl | hk
    · exact h3.trans (min_le_right _ _)
    · exact h1 k hk

/-- A bound below every entry met, and below the three lane values at the start, is below the three at the end. -/
theorem le_run (v16 : FVec Ideal S128x8192 .f32) (i : S128x128.Idx) (b : EReal) : ∀ (l : List (Fin 64)) (s : Lanes Ideal),
    (∀ j ∈ l, b ≤ chunk v16 j i) → b ≤ s.a i → b ≤ s.b i → b ≤ s.c i →
    b ≤ (run v16 l s).a i ∧ b ≤ (run v16 l s).b i ∧ b ≤ (run v16 l s).c i
  | [], s => fun _ h1 h2 h3 => ⟨h1, h2, h3⟩
  | j :: l, s => fun h h1 h2 h3 => by
    have hj := h j List.mem_cons_self
    refine le_run v16 i b l (step s (chunk v16 j)) (fun k hk => h k (List.mem_cons_of_mem _ hk)) ?_ ?_ ?_
    · exact le_min h1 hj
    · exact le_min h2 (le_max_of_le_left h1)
    · exact le_min h3 (le_max_of_le_left h2)

theorem chunk_apply (v16 : FVec Ideal S128x8192 .f32) (j : Fin 64) (r l : Fin 128) :
    chunk v16 j (ix2 r l) = v16 (ix2 r ⟨128 * j.val + l.val, by omega⟩) := by
  pointwise [chunk]

theorem lanesMin_apply (s : Lanes Ideal) (r : Fin 128) :
    lanesMin s (ix2 r 0) = Finset.univ.inf fun l : Fin 128 => min (min (s.a (ix2 r l)) (s.b (ix2 r l))) (s.c (ix2 r l)) := by
  pointwise [lanesMin]
  exact fold_min_eq _

/-- The column of smallest squared distances: entry `r` is the infimum of row `r`. -/
theorem nearest_apply (v16 : FVec Ideal S128x8192 .f32) (v45 : FVec Ideal S128x128 .f32) (h45 : v45 = chunk v16 0) (r : Fin 128) :
    nearest v16 (carryEnd v16 v45) (ix2 r 0) = Finset.univ.inf fun k : Fin 8192 => v16 (ix2 r k) := by
  subst h45
  rw [nearest_all, lanesMin_apply]
  apply le_antisymm
  · refine Finset.le_inf fun k _ => ?_
    have hk := k.isLt
    have hl := run_le v16 (ix2 r ⟨k.val % 128, by omega⟩) chunks (start (chunk v16 0))
    refine (Finset.inf_le (Finset.mem_univ (⟨k.val % 128, by omega⟩ : Fin 128))).trans ?_
    refine (min_le_left _ _).trans ((min_le_left _ _).trans ?_)
    have hcol : ∀ j : Fin 64, j.val = k.val / 128 → chunk v16 j (ix2 r ⟨k.val % 128, by omega⟩) = v16 (ix2 r k) := fun j hj => by
      rw [chunk_apply]
      congr 2
      ext
      show 128 * j.val + k.val % 128 = k.val
      omega
    by_cases h0 : k.val / 128 = 0
    · rw [← hcol 0 (by rw [h0]; rfl)]
      exact hl.2
    · rw [← hcol ⟨k.val / 128, by omega⟩ rfl]
      refine hl.1 _ ?_
      have : ∀ j : Fin 64, j.val ≠ 0 → j ∈ chunks := by decide
      exact this _ h0
  · refine Finset.le_inf fun l _ => ?_
    have hb : ∀ j : Fin 64, (Finset.univ.inf fun k : Fin 8192 => v16 (ix2 r k)) ≤ chunk v16 j (ix2 r l) := fun j => by
      rw [chunk_apply]
      exact Finset.inf_le (Finset.mem_univ _)
    have htop : ∀ b : EReal, b ≤ k0_pay35 (F := Ideal) (ix2 r l) := fun b => by
      refine le_top.trans_eq ?_
      pointwise [k0_pay35]
      exact Consts.top_eq.symm
    obtain ⟨h1, h2, h3⟩ := le_run v16 (ix2 r l) _ chunks (start (chunk v16 0)) (fun j _ => hb j) (hb 0) (htop _) (htop _)
    exact le_min (le_min h1 h2) h3

theorem minOf_apply (x0 : FVec Ideal S128x8 .f32) (x1 : FVec Ideal S8x8192 .f32) (x3 : FVec Ideal S128x1 .f32) (x4 : FVec Ideal S1x8192 .f32) (r : Fin 128) :
    minOf x0 x1 x3 x4 (ix2 r 0) = Finset.univ.inf fun k : Fin 8192 => dist2 x0 x1 x3 x4 (ix2 r k) :=
  nearest_apply _ _ rfl r

end Values

end Cert.Proof.PI

end
-- ==== Proof.PI.Fast.lean ====
/- The fast path of a block. Each row's points within a radius are counted, with one sixteenth more for a point that votes "inside": the
   whole part of the sum is the number of points and sixteen times the rest is the number of votes, as long as the points are at most
   fifteen. When they are eleven they are the eleven nearest, whatever the radius was; the exact path runs unless every row counts eleven. -/
module

public import proofs.«01_k».proof.Proof.Spec
public import proofs.«01_k».proof.Proof.PI.Lanes

@[expose] public section

noncomputable section

namespace Cert.Proof.PI

open Cert.KernelIdeal Cert.KernelIdeal.Gen
open Idealize.ShloMosaic Idealize.ShloMosaic.TcCoe
open Idealize.SL.Sem

/-- The packed sum of every row, within the radii `t`. -/
def packed (v16 : FVec Ideal S128x8192 .f32) (v44 : IVec S128x8192 1) (t : FVec Ideal S128x1 .f32) : FVec Ideal S128x1 .f32 :=
  shapeCast S128x1 (multiReduction .add [1] S128
    (select (cmpf .ole v16 (broadcastTo S128x8192 t broadcasts_S128x1_S128x8192))
      (select v44 (broadcast S128x8192 (Scalar.ofBits .f32 0x3F880000#32)) (broadcast S128x8192 (Scalar.ofBits .f32 0x3F800000#32)))
      (broadcast S128x8192 (Scalar.ofBits .f32 0x00000000#32)))
    0x00000000#32 reduces_S128x8192_S128 (.inl rfl) rfl) shapeCasts_S128_S128x1

/-- The body's packed sum is taken within some radii. -/
theorem packed_of (v16 : FVec Ideal S128x8192 .f32) (v44 : IVec S128x8192 1) (l : Lanes Ideal) :
    ∃ t, k0_pay333 v16 v44 l.a l.b l.c = packed v16 v44 t := ⟨_, rfl⟩

/-- Row `r` of the squared distances, and of the votes. -/
def rowD (v16 : FVec Ideal S128x8192 .f32) (r : Fin 128) (k : Fin 8192) : EReal := v16 (ix2 r k)
def rowNeg (v44 : IVec S128x8192 1) (r : Fin 128) (k : Fin 8192) : Prop := v44 (ix2 r k) = 1#1

open Classical in
/-- A row's packed sum is its number of points within the radius, and a sixteenth of its number of votes among them. -/
theorem packed_apply (v16 : FVec Ideal S128x8192 .f32) (v44 : IVec S128x8192 1) (t : FVec Ideal S128x1 .f32) (r : Fin 128) :
    packed v16 v44 t (ix2 r 0)
      = ((((Spec.within (rowD v16 r) (t (ix2 r 0))).card : ℝ)
          + (((Spec.within (rowD v16 r) (t (ix2 r 0))).filter (rowNeg v44 r)).card : ℝ) / 16 : ℝ) : EReal) := by
  have hterm : ∀ k : Fin 8192, (if v16 (ix2 r k) ≤ t (ix2 r 0) then Scalar.select (v44 (ix2 r k)) (Ideal.ofBits FTy.f32 0x3F880000#32) 1 else (0 : EReal))
      = (((if k ∈ Spec.within (rowD v16 r) (t (ix2 r 0)) then 1 else 0)
          + (if k ∈ (Spec.within (rowD v16 r) (t (ix2 r 0))).filter (rowNeg v44 r) then 1 else 0) / 16 : ℝ) : EReal) := fun k => by
    have m1 : k ∈ Spec.within (rowD v16 r) (t (ix2 r 0)) ↔ v16 (ix2 r k) ≤ t (ix2 r 0) := Spec.mem_within _ _ _
    have m2 : k ∈ (Spec.within (rowD v16 r) (t (ix2 r 0))).filter (rowNeg v44 r) ↔ v16 (ix2 r k) ≤ t (ix2 r 0) ∧ v44 (ix2 r k) = 1#1 := by
      rw [Finset.mem_filter, m1]; rfl
    rw [if_congr m1 rfl rfl, if_congr m2 rfl rfl]
    by_cases h1 : v16 (ix2 r k) ≤ t (ix2 r 0)
    · by_cases h2 : v44 (ix2 r k) = 1#1
      · rw [if_pos h1, if_pos h1, if_pos ⟨h1, h2⟩, show ∀ a b : EReal, Scalar.select (v44 (ix2 r k)) a b = a from fun _ _ => if_pos h2, Consts.one16_eq]
      · rw [if_pos h1, if_pos h1, if_neg (fun h => h2 h.2), show ∀ a b : EReal, Scalar.select (v44 (ix2 r k)) a b = b from fun _ _ => if_neg h2]
        norm_num
    · rw [if_neg h1, if_neg h1, if_neg (fun h => h1 h.1)]
      norm_num
  pointwise [packed]
  rw [Finset.sum_congr rfl fun k _ => hterm k, Consts.sum_coe]
  refine EReal.coe_eq_coe_iff.mpr ?_
  rw [Finset.sum_add_distrib, ← Finset.sum_div]
  simp only [Finset.sum_ite_mem, Finset.univ_inter, Finset.sum_const, nsmul_eq_mul, mul_one]

/-- The whole part of `a + b / 16` is eleven only if `a` is, when `b ≤ a`. -/
theorem eq_eleven {a b : ℕ} (hb : b ≤ a) (h : ⌊((a : ℝ) + (b : ℝ) / 16 : ℝ)⌋ = 11) : a = 11 := by
  obtain ⟨h1, h2⟩ := Int.floor_eq_iff.mp h
  have hb' : (b : ℝ) ≤ a := by exact_mod_cast hb
  have hb0 : (0 : ℝ) ≤ b := Nat.cast_nonneg b
  push_cast at h1 h2
  have u1 : (a : ℝ) < 12 := by linarith
  have u2 : (10 : ℝ) < a := by linarith
  have v1 : a < 12 := by exact_mod_cast u1
  have v2 : 10 < a := by exact_mod_cast u2
  omega

/-- More than five and a half votes are at least six. -/
theorem six_le_iff (v : ℕ) : Ideal.ofBits FTy.f32 0x40B00000#32 < ((v : ℝ) : EReal) ↔ 6 ≤ v := by
  rw [Consts.half11_eq, EReal.coe_lt_coe_iff]
  constructor
  · intro h
    by_contra h6
    have : (v : ℝ) ≤ 5 := by exact_mod_cast (by omega : v ≤ 5)
    linarith
  · intro h
    have : (6 : ℝ) ≤ (v : ℝ) := by exact_mod_cast h
    linarith

/-- A row whose count column reads eleven: the column stored first holds its signed distance. -/
theorem fast_apply (v16 : FVec Ideal S128x8192 .f32) (v44 : IVec S128x8192 1) (l : Lanes Ideal) (m : FVec Ideal S128x1 .f32) (r : Fin 128)
    (hm : m (ix2 r 0) = Finset.univ.inf (rowD v16 r)) (hcnt : countCol v16 v44 l (ix2 r 0) = ((11 : ℝ) : EReal)) :
    k0_pay2 m (restCol v16 v44 l) (ix2 r 0) = Spec.value (rowD v16 r) (rowNeg v44 r) := by
  classical
  obtain ⟨t, ht⟩ := packed_of v16 v44 l
  have hp := packed_apply v16 v44 t r
  rw [← ht] at hp
  set S := Spec.within (rowD v16 r) (t (ix2 r 0)) with hS
  have hle : (S.filter (rowNeg v44 r)).card ≤ S.card := Finset.card_filter_le _ _
  have hfl : ⌊((S.card : ℝ) + ((S.filter (rowNeg v44 r)).card : ℝ) / 16 : ℝ)⌋ = 11 := by
    revert hcnt
    pointwise [countCol, k0_pay334]
    rw [hp]
    intro h
    have h' : ((⌊((S.card : ℝ) + ((S.filter (rowNeg v44 r)).card : ℝ) / 16 : ℝ)⌋ : ℝ) : EReal) = ((11 : ℝ) : EReal) := h
    have h'' := EReal.coe_eq_coe_iff.mp h'
    exact_mod_cast h''
  have hcard := eq_eleven hle hfl
  have htop : S = Spec.nearest11 (rowD v16 r) := Spec.eq_nearest11 (Spec.within_closed _ _) hcard
  have hv : (S.filter (rowNeg v44 r)).card = Spec.votes (rowD v16 r) (rowNeg v44 r) := by rw [htop]; rfl
  have hfrac : Ideal.liftRound Int.floor (k0_pay333 v16 v44 l.a l.b l.c (ix2 r 0)) = ((11 : ℝ) : EReal) := by
    rw [hp]
    show ((⌊((S.card : ℝ) + ((S.filter (rowNeg v44 r)).card : ℝ) / 16 : ℝ)⌋ : ℝ) : EReal) = _
    rw [hfl]; norm_num
  have hrest : (k0_pay333 v16 v44 l.a l.b l.c (ix2 r 0) - Ideal.liftRound Int.floor (k0_pay333 v16 v44 l.a l.b l.c (ix2 r 0)))
      * Ideal.ofBits FTy.f32 0x41800000#32 = (((S.filter (rowNeg v44 r)).card : ℝ) : EReal) := by
    rw [hfrac, hp, Consts.sixteen_eq, ← EReal.coe_sub, ← EReal.coe_mul, hcard]
    refine EReal.coe_eq_coe_iff.mpr ?_
    push_cast
    ring
  have hiff : Ideal.ofBits FTy.f32 0x40B00000#32 < (((S.filter (rowNeg v44 r)).card : ℝ) : EReal) ↔ 6 ≤ Spec.votes (rowD v16 r) (rowNeg v44 r) := by
    rw [hv]; exact six_le_iff _
  unfold Spec.value
  pointwise [restCol, k0_pay335, k0_pay334, k0_pay2, k0_pay1]
  rw [hrest, hm]
  exact if_congr hiff rfl rfl

/-- When the exact path does not run, every row's count column reads eleven. -/
theorem count_of_not_exactRuns (c : FVec Ideal S128x1 .f32) (h : ¬ exactRuns c) (r : Fin 128) : c (ix2 r 0) = ((11 : ℝ) : EReal) := by
  by_contra hr
  refine h ?_
  have hone : (1 : EReal) ≤ k0_pay3 c := by
    pointwise [k0_pay3]
    rw [Consts.bot_eq, Consts.eleven_eq]
    refine (le_of_eq ?_).trans (Finset.le_sup (α := EReal) (Finset.mem_univ (r, (0 : Fin 1))))
    exact (if_pos hr).symm
  unfold exactRuns
  have hgt : Scalar.cmpf (F := Ideal) .ogt (k0_pay3 c) (Scalar.ofBits .f32 0x00000000#32) = 1#1 := by
    pointwise []
    have : (0 : EReal) < k0_pay3 c := lt_of_lt_of_le zero_lt_one hone
    rw [decide_eq_true this]; rfl
  rw [hgt]
  decide

end Cert.Proof.PI

end
-- ==== Proof.PI.Exact.lean ====
/- The exact path of a block: eleven rounds, each finding the first smallest entry of every row and replacing it by infinity. On rows of
   finite entries the entries found are the eleven nearest points, and the path's column is the row's signed distance. -/
module

public import proofs.«01_k».proof.Proof.Spec
public import proofs.«01_k».proof.Proof.PI.Fast
public import Idealize.ShloMosaic.PureOps.Reduce
public import Idealize.ShloMosaic.Lib.SortNet.Extract
public import Idealize.ShloMosaic.Lib.WordCmp
public import Mathlib.Data.Finset.Fold

@[expose] public section

noncomputable section

namespace Cert.Proof.PI

open Cert.KernelIdeal Cert.KernelIdeal.Gen
open Idealize.ShloMosaic Idealize.ShloMosaic.TcCoe
open Idealize.SL.Sem

section Rounds

variable {F : FTy → Type} [FloatOps F]

/-- The column number where the entry is the row's smallest, and 8192 elsewhere. -/
def cand (w : FVec F S128x8192 .f32) : IVec S128x8192 32 :=
  select (cmpf .oeq w (broadcastTo S128x8192 (shapeCast S128x1 (multiReduction .minimumf [1] S128 w 0x7F800000#32 reduces_S128x8192_S128 (.inl rfl) rfl)
    shapeCasts_S128_S128x1) broadcasts_S128x1_S128x8192)) (iota .tc S128x8192 32 [1] iota_S128x8192_d1_w32) (broadcast S128x8192 8192#32)

/-- The mask of each row's first smallest entry. -/
def hit (w : FVec F S128x8192 .f32) : IVec S128x8192 1 :=
  cmpi .eq (cand w) (broadcastTo S128x8192 (shapeCast S128x1 (multiReductionI .minsi [1] S128 (cand w) 2147483647#32 reduces_S128x8192_S128 rfl)
    shapeCasts_S128_S128x1) broadcasts_S128x1_S128x8192)

/-- The rows with that entry replaced by infinity. -/
def next (w : FVec F S128x8192 .f32) : FVec F S128x8192 .f32 := select (hit w) (broadcast S128x8192 (Scalar.ofBits (F := F) .f32 0x7F800000#32)) w

/-- The rows, and the mask of the entries found, after `r` rounds. -/
def rowsAfter (v16 : FVec F S128x8192 .f32) : ℕ → FVec F S128x8192 .f32
  | 0 => v16
  | r + 1 => next (rowsAfter v16 r)
def maskAfter (v16 : FVec F S128x8192 .f32) : ℕ → IVec S128x8192 1
  | 0 => broadcast S128x8192 0#1
  | r + 1 => ori (maskAfter v16 r) (hit (rowsAfter v16 r))

theorem rowsAfter_succ (v16 : FVec F S128x8192 .f32) (r : ℕ) : rowsAfter v16 (r + 1) = next (rowsAfter v16 r) := rfl

/-- The column of signed distances from the mask of the points that count and the column of smallest squared distances. -/
def finish (v44 mask : IVec S128x8192 1) (m : FVec F S128x1 .f32) : FVec F S128x1 .f32 :=
  select (cmpf .ogt (shapeCast S128x1 (multiReduction .add [1] S128
      (select (andi mask v44) (broadcast S128x8192 (Scalar.ofBits (F := F) .f32 0x3F800000#32)) (broadcast S128x8192 (Scalar.ofBits (F := F) .f32 0x00000000#32)))
      0x00000000#32 reduces_S128x8192_S128 (.inl rfl) rfl) shapeCasts_S128_S128x1) (broadcast S128x1 (Scalar.ofBits (F := F) .f32 0x40B00000#32)))
    (subf (broadcast S128x1 (Scalar.ofBits (F := F) .f32 0x00000000#32)) (k0_pay1 m)) (k0_pay1 m)

/-- The exact path is eleven rounds and the count. -/
theorem exactCol_eq (v16 : FVec F S128x8192 .f32) (v44 : IVec S128x8192 1) (m : FVec F S128x1 .f32) :
    exactCol v16 v44 m = finish v44 (maskAfter v16 11) m := rfl

end Rounds

section Values

theorem toInt_ofNat_of_lt {k : ℕ} (h : k ≤ 8192) : (BitVec.ofNat 32 k).toInt = k := by
  rw [BitVec.toInt_eq_toNat_of_lt] <;> rw [BitVec.toNat_ofNat] <;> omega

/-- A row's least candidate is the column number of its first smallest entry. -/
theorem fold_cand (w : Fin 8192 → EReal) (k : Fin 8192) (hle : ∀ j, w k ≤ w j) (hlt : ∀ j < k, w k < w j) :
    Finset.univ.fold IntOp.minsi 2147483647#32 (fun x : Fin 8192 => if w x = Finset.univ.inf w then BitVec.ofNat 32 x.val else 8192#32)
      = BitVec.ofNat 32 k.val := by
  have hk : w k = Finset.univ.inf w := le_antisymm (Finset.le_inf fun j _ => hle j) (Finset.inf_le (Finset.mem_univ k))
  apply BitVec.eq_of_toInt_eq
  rw [← Finset.fold_hom (op' := min) (m := BitVec.toInt) SortNet.toInt_minsi, toInt_ofNat_of_lt k.isLt.le]
  have hc : ∀ x : Fin 8192, (if w x = Finset.univ.inf w then BitVec.ofNat 32 x.val else 8192#32).toInt
      = if w x = Finset.univ.inf w then (x.val : ℤ) else 8192 := fun x => by
    split
    · exact toInt_ofNat_of_lt x.isLt.le
    · rfl
  simp only [hc]
  apply le_antisymm
  · refine (Finset.fold_min_le _).mpr (.inr ⟨k, Finset.mem_univ k, ?_⟩)
    rw [if_pos hk]
  · refine (Finset.le_fold_min _).mpr ⟨?_, fun x _ => ?_⟩
    · have := k.isLt
      have h : (2147483647#32 : BitVec 32).toInt = 2147483647 := by decide
      rw [h]; omega
    · split
      · rename_i hx
        by_contra hlt'
        push Not at hlt'
        have : x < k := by
          rw [Fin.lt_def]; exact_mod_cast hlt'
        exact absurd (hk.trans hx.symm) (hlt x this).ne
      · have := k.isLt; omega

/-- The mask of a round is on at a row's first smallest entry, and there alone. -/
theorem hit_iff (w : FVec Ideal S128x8192 .f32) (r : Fin 128) (k : Fin 8192) :
    hit w (ix2 r k) = 1#1 ↔ k ∈ Spec.firstMin (rowD w r) := by
  obtain ⟨k0, hk0, hle, hlt⟩ := Spec.exists_firstMin (rowD w r) (by omega)
  have hmin : rowD w r k0 = Finset.univ.inf (rowD w r) :=
    le_antisymm (Finset.le_inf fun j _ => hle j) (Finset.inf_le (Finset.mem_univ k0))
  have hval : hit w (ix2 r k) = IntOp.cmpi .eq (if rowD w r k = Finset.univ.inf (rowD w r) then BitVec.ofNat 32 k.val else 8192#32)
      (Finset.univ.fold IntOp.minsi 2147483647#32 (fun x : Fin 8192 => if rowD w r x = Finset.univ.inf (rowD w r) then BitVec.ofNat 32 x.val else 8192#32)) := by
    pointwise [hit, cand]
    simp only [fold_min_eq]
    rfl
  rw [hval, fold_cand _ k0 hle hlt, hk0, Finset.mem_singleton]
  have hcmp : ∀ a b : BitVec 32, IntOp.cmpi .eq a b = 1#1 ↔ a = b := fun a b => by
    show BitVec.ofBool (a == b) = 1#1 ↔ a = b
    rw [WordCmp.ofBool_eq_one_iff, beq_iff_eq]
  rw [hcmp]
  constructor
  · intro h
    have hi := congrArg BitVec.toInt h
    rw [toInt_ofNat_of_lt k0.isLt.le] at hi
    split at hi
    · rw [toInt_ofNat_of_lt k.isLt.le] at hi
      exact Fin.ext (by exact_mod_cast hi)
    · have h8 : (8192#32 : BitVec 32).toInt = 8192 := by decide
      rw [h8] at hi
      have := k0.isLt
      omega
  · rintro rfl
    rw [if_pos hmin]

/-- A round's rows: the first smallest entries replaced by infinity. -/
theorem next_apply (w : FVec Ideal S128x8192 .f32) (r : Fin 128) (k : Fin 8192) [Decidable (k ∈ Spec.firstMin (rowD w r))] :
    next w (ix2 r k) = if k ∈ Spec.firstMin (rowD w r) then ⊤ else rowD w r k := by
  have h : next w (ix2 r k) = if hit w (ix2 r k) = 1#1 then Ideal.ofBits .f32 0x7F800000#32 else w (ix2 r k) := rfl
  rw [h, Consts.top_eq]
  exact if_congr (hit_iff w r k) rfl rfl

/-- The rows after `t` rounds are the rows without the entries removed in them. -/
theorem rowsAfter_row (v16 : FVec Ideal S128x8192 .f32) (r : Fin 128) : ∀ t,
    rowD (rowsAfter v16 t) r = Spec.without (rowD v16 r) (Spec.removed (rowD v16 r) t)
  | 0 => by funext k; simp [Spec.without, Spec.removed]; rfl
  | t + 1 => by
    classical
    funext k
    have h1 : rowD (rowsAfter v16 (t + 1)) r k = next (rowsAfter v16 t) (ix2 r k) :=
      congrFun (rowsAfter_succ v16 t) (ix2 r k)
    have h2 := next_apply (rowsAfter v16 t) r k
    rw [rowsAfter_row v16 r t] at h2
    rw [h1, h2, Spec.without_succ]

/-- The mask after `t` rounds is on at the entries removed in them. -/
theorem maskAfter_iff (v16 : FVec Ideal S128x8192 .f32) (r : Fin 128) (k : Fin 8192) : ∀ t,
    maskAfter v16 t (ix2 r k) = 1#1 ↔ k ∈ Spec.removed (rowD v16 r) t
  | 0 => by simp [Spec.removed, maskAfter, broadcast]
  | t + 1 => by
    have hor : ∀ a b : BitVec 1, IntOp.ori a b = 1#1 ↔ a = 1#1 ∨ b = 1#1 := by decide
    have h : maskAfter v16 (t + 1) (ix2 r k) = IntOp.ori (maskAfter v16 t (ix2 r k)) (hit (rowsAfter v16 t) (ix2 r k)) := rfl
    rw [h, hor, maskAfter_iff v16 r k t, hit_iff, rowsAfter_row, Spec.removed, Finset.mem_union]

/-- On a row of finite squared distances the exact path's column holds the signed distance. -/
theorem exact_apply (v16 : FVec Ideal S128x8192 .f32) (v44 : IVec S128x8192 1) (m : FVec Ideal S128x1 .f32) (r : Fin 128)
    (hfin : ∀ k, rowD v16 r k ≠ ⊤) (hm : m (ix2 r 0) = Finset.univ.inf (rowD v16 r)) :
    exactCol v16 v44 m (ix2 r 0) = Spec.value (rowD v16 r) (rowNeg v44 r) := by
  classical
  have hand : ∀ a b : BitVec 1, IntOp.andi a b = 1#1 ↔ a = 1#1 ∧ b = 1#1 := by decide
  have hsum : (∑ k : Fin 8192, Scalar.select (IntOp.andi (maskAfter v16 11 (ix2 r k)) (v44 (ix2 r k))) (1 : EReal) 0)
      = ((Spec.votes (rowD v16 r) (rowNeg v44 r) : ℝ) : EReal) := by
    have hterm : ∀ k : Fin 8192, Scalar.select (IntOp.andi (maskAfter v16 11 (ix2 r k)) (v44 (ix2 r k))) (1 : EReal) 0
        = ((if k ∈ (Spec.nearest11 (rowD v16 r)).filter (rowNeg v44 r) then 1 else 0 : ℝ) : EReal) := fun k => by
      have h : IntOp.andi (maskAfter v16 11 (ix2 r k)) (v44 (ix2 r k)) = 1#1 ↔ k ∈ (Spec.nearest11 (rowD v16 r)).filter (rowNeg v44 r) := by
        rw [hand, maskAfter_iff, Spec.removed_eleven hfin (by omega), Finset.mem_filter]
        rfl
      by_cases hk : k ∈ (Spec.nearest11 (rowD v16 r)).filter (rowNeg v44 r)
      · rw [if_pos hk]
        exact (if_pos (h.mpr hk)).trans EReal.coe_one.symm
      · rw [if_neg hk]
        exact (if_neg fun h' => hk (h.mp h')).trans EReal.coe_zero.symm
    rw [Finset.sum_congr rfl fun k _ => hterm k, Consts.sum_coe]
    refine EReal.coe_eq_coe_iff.mpr ?_
    simp only [Finset.sum_ite_mem, Finset.univ_inter, Finset.sum_const, nsmul_eq_mul, mul_one]
    rfl
  rw [exactCol_eq]
  unfold Spec.value
  pointwise [finish, k0_pay1]
  rw [hsum, hm]
  exact if_congr (six_le_iff _) rfl rfl

end Values

end Cert.Proof.PI

end
-- ==== Proof.PI.BlockValue.lean ====
/- What one block's column holds, row by row: the signed distance by majority of the eleven nearest points, whichever path was taken. -/
module

public import proofs.«01_k».proof.Proof.PI.Fast
public import proofs.«01_k».proof.Proof.PI.Exact

@[expose] public section

noncomputable section

namespace Cert.Proof.PI

open Cert.KernelIdeal Cert.KernelIdeal.Gen
open Idealize.ShloMosaic Idealize.ShloMosaic.TcCoe
open Idealize.SL.Sem

open Classical in
/-- Row `r` of the column the body leaves is the signed distance of row `r` of the squared distances and of the votes, when none of
    the row's squared distances is infinite. -/
theorem blockOut_apply (x0 : FVec Ideal S128x8 .f32) (x1 x2 : FVec Ideal S8x8192 .f32) (x3 : FVec Ideal S128x1 .f32) (x4 : FVec Ideal S1x8192 .f32)
    (r : Fin 128) (hfin : ∀ k, rowD (dist2 x0 x1 x3 x4) r k ≠ ⊤) :
    blockOut x0 x1 x2 x3 x4 (ix2 r 0) = Spec.value (rowD (dist2 x0 x1 x3 x4) r) (rowNeg (negMask x0 x1 x2) r) := by
  have hm : minOf x0 x1 x3 x4 (ix2 r 0) = Finset.univ.inf (rowD (dist2 x0 x1 x3 x4) r) := minOf_apply x0 x1 x3 x4 r
  unfold blockOut
  by_cases h : exactRuns (cntOf x0 x1 x2 x3 x4)
  · rw [if_pos h]
    exact exact_apply _ _ _ r hfin hm
  · rw [if_neg h]
    exact fast_apply _ _ _ _ r hm (count_of_not_exactRuns _ h r)

end Cert.Proof.PI

end
-- ==== Proof.PI.Blocks.lean ====
/- The blocks the body is called with at point `t`: query rows `128 t` to `128 t + 127`, and all the points and normals. What the body leaves
   at row `r` of its block is what `Rows.out` says of query `128 t + r`. -/
module

public import proofs.«01_k».proof.Proof.PI.Host
public import proofs.«01_k».proof.Proof.PI.BlockValue
public import proofs.«01_k».proof.Proof.PI.Body

@[expose] public section

noncomputable section

namespace Cert.Proof.PI

open Cert.KernelIdeal Cert.KernelIdeal.Gen
open Idealize.ShloMosaic Idealize.ShloMosaic.TcCoe
open Idealize.SL.Sem

/-- Query row `r` of block `t`. -/
def row (t : Fin 64) (r : Fin 128) : Fin 8192 := ⟨128 * t.val + r.val, by omega⟩

/-- The windows' block numbers at point `t`: `t` for the queries, their lengths and the result; zero for the rest. -/
theorem index_0 : ∀ t : Fin cfg0.N, win0_0.index t 0 = t.val ∧ win0_0.index t 1 = 0 := by decide +kernel
theorem index_1 : ∀ t : Fin cfg0.N, win0_1.index t 0 = 0 ∧ win0_1.index t 1 = 0 := by decide +kernel
theorem index_2 : ∀ t : Fin cfg0.N, win0_2.index t 0 = 0 ∧ win0_2.index t 1 = 0 := by decide +kernel
theorem index_3 : ∀ t : Fin cfg0.N, win0_3.index t 0 = t.val ∧ win0_3.index t 1 = 0 := by decide +kernel
theorem index_4 : ∀ t : Fin cfg0.N, win0_4.index t 0 = 0 ∧ win0_4.index t 1 = 0 := by decide +kernel
theorem index_5 : ∀ t : Fin cfg0.N, win0_5.index t 0 = t.val ∧ win0_5.index t 1 = 0 := by decide +kernel

variable {F : FTy → Type} [FloatOps F] (m : (ℓ : Loc nD τ sig) → Buf (Elt F) ℓ)

/-- The entry of each block, in its array. -/
theorem iblk_0 (c : Dev nD) (t : Fin cfg0.N) (r : Fin 128) (j : Fin 8) :
    (iblk m c 0 t : FVec F S128x8 .f32) (ix2 r j) = (V m c main_call0_v2 : FVec F S8192x8 .f32) (ix2 (row t r) j) := by
  unfold iblk
  rw [View.read_apply]
  show V m c main_call0_v2 _ = V m c main_call0_v2 _
  congr 1
  funext a
  apply Fin.ext
  match a with
  | ⟨0, _⟩ => show win0_0.index t 0 * 128 + 1 * r.val = 128 * t.val + r.val; rw [(index_0 t).1]; omega
  | ⟨1, _⟩ => show win0_0.index t 1 * 8 + 1 * j.val = j.val; rw [(index_0 t).2]; omega
theorem iblk_1 (c : Dev nD) (t : Fin cfg0.N) (j : Fin 8) (k : Fin 8192) :
    (iblk m c 1 t : FVec F S8x8192 .f32) (ix2 j k) = (V m c main_call0_v6 : FVec F S8x8192 .f32) (ix2 j k) := by
  unfold iblk
  rw [View.read_apply]
  show V m c main_call0_v6 _ = V m c main_call0_v6 _
  congr 1
  funext a
  apply Fin.ext
  match a with
  | ⟨0, _⟩ => show win0_1.index t 0 * 8 + 1 * j.val = j.val; rw [(index_1 t).1]; omega
  | ⟨1, _⟩ => show win0_1.index t 1 * 8192 + 1 * k.val = k.val; rw [(index_1 t).2]; omega
theorem iblk_2 (c : Dev nD) (t : Fin cfg0.N) (j : Fin 8) (k : Fin 8192) :
    (iblk m c 2 t : FVec F S8x8192 .f32) (ix2 j k) = (V m c main_call0_v10 : FVec F S8x8192 .f32) (ix2 j k) := by
  unfold iblk
  rw [View.read_apply]
  show V m c main_call0_v10 _ = V m c main_call0_v10 _
  congr 1
  funext a
  apply Fin.ext
  match a with
  | ⟨0, _⟩ => show win0_2.index t 0 * 8 + 1 * j.val = j.val; rw [(index_2 t).1]; omega
  | ⟨1, _⟩ => show win0_2.index t 1 * 8192 + 1 * k.val = k.val; rw [(index_2 t).2]; omega
theorem iblk_3 (c : Dev nD) (t : Fin cfg0.N) (r : Fin 128) :
    (iblk m c 3 t : FVec F S128x1 .f32) (ix2 r 0) = (V m c main_call0_v13 : FVec F S8192x1 .f32) (ix2 (row t r) 0) := by
  unfold iblk
  rw [View.read_apply]
  show V m c main_call0_v13 _ = V m c main_call0_v13 _
  congr 1
  funext a
  apply Fin.ext
  match a with
  | ⟨0, _⟩ => show win0_3.index t 0 * 128 + 1 * r.val = 128 * t.val + r.val; rw [(index_3 t).1]; omega
  | ⟨1, _⟩ => show win0_3.index t 1 * 1 + 1 * 0 = 0; rw [(index_3 t).2]
theorem iblk_4 (c : Dev nD) (t : Fin cfg0.N) (k : Fin 8192) :
    (iblk m c 4 t : FVec F S1x8192 .f32) (ix2 0 k) = (V m c main_call0_v16 : FVec F S1x8192 .f32) (ix2 0 k) := by
  unfold iblk
  rw [View.read_apply]
  show V m c main_call0_v16 _ = V m c main_call0_v16 _
  congr 1
  funext a
  apply Fin.ext
  match a with
  | ⟨0, _⟩ => show win0_4.index t 0 * 1 + 1 * 0 = 0; rw [(index_4 t).1]
  | ⟨1, _⟩ => show win0_4.index t 1 * 8192 + 1 * k.val = k.val; rw [(index_4 t).2]; omega

end Cert.Proof.PI

end
-- ==== Proof.PI.Table.lean ====
/- A block's squared distances and votes are the rows of the table both programs decide by. -/
module

public import proofs.«01_k».proof.Proof.PI.Blocks

@[expose] public section

noncomputable section

namespace Cert.Proof.PI

open Cert.KernelIdeal Cert.KernelIdeal.Gen
open Idealize.ShloMosaic Idealize.ShloMosaic.TcCoe
open Idealize.SL.Sem

/-- A dot product over eight coordinates, the last five zero, is the dot product over the first three. -/
theorem sum_padded (a b : Fin 3 → EReal) :
    ∑ j : Fin 8, (if h : j.val < 3 then a ⟨j.val, h⟩ else 0) * (if h : j.val < 3 then b ⟨j.val, h⟩ else 0) = ∑ j, a j * b j := by
  rw [Fin.sum_univ_eight, Fin.sum_univ_three]
  simp

/-- An entry of a block's squared distances. -/
theorem dist2_apply (x0 : FVec Ideal S128x8 .f32) (x1 : FVec Ideal S8x8192 .f32) (x3 : FVec Ideal S128x1 .f32) (x4 : FVec Ideal S1x8192 .f32)
    (r : Fin 128) (k : Fin 8192) :
    dist2 x0 x1 x3 x4 (ix2 r k) = x3 (ix2 r 0) - ((2 : ℝ) : EReal) * ∑ j, x0 (ix2 r j) * x1 (ix2 j k) + x4 (ix2 0 k) := by
  rw [← Consts.two_eq]
  pointwise [dist2, k0_pay32, k0_pay30, k0_pay31]

/-- An entry of a block's votes. -/
theorem negMask_apply (x0 : FVec Ideal S128x8 .f32) (x1 x2 : FVec Ideal S8x8192 .f32) (r : Fin 128) (k : Fin 8192) :
    negMask x0 x1 x2 (ix2 r k) = 1#1 ↔
      (x0 (ix2 r 0) - x1 (ix2 0 k)) * x2 (ix2 0 k) + (x0 (ix2 r 1) - x1 (ix2 1 k)) * x2 (ix2 1 k) + (x0 (ix2 r 2) - x1 (ix2 2 k)) * x2 (ix2 2 k) < 0 := by
  have e : negMask x0 x1 x2 (ix2 r k) = BitVec.ofBool (decide
      ((x0 (ix2 r 0) - x1 (ix2 0 k)) * x2 (ix2 0 k) + (x0 (ix2 r 1) - x1 (ix2 1 k)) * x2 (ix2 1 k) + (x0 (ix2 r 2) - x1 (ix2 2 k)) * x2 (ix2 2 k) < 0)) := by
    pointwise [negMask, k0_pay33, k0_pay30, k0_pay31]
  rw [e, WordCmp.ofBool_decide_eq_one_iff]

variable (m : (ℓ : Loc nD τ sig) → Buf (Elt Ideal) ℓ)

/-- The queries, the points and the normals, as functions of row and column. -/
def qs (c : Dev nD) : Fin 8192 → Fin 3 → EReal := rows (m ((c : Thread nD τ).loc main_arg0))
def ps (c : Dev nD) : Fin 8192 → Fin 3 → EReal := rows (m ((c : Thread nD τ).loc main_arg1))
def ns (c : Dev nD) : Fin 8192 → Fin 3 → EReal := rows (m ((c : Thread nD τ).loc main_arg2))

/-- Row `r` of block `t`'s squared distances. -/
theorem rowD_eq (c : Dev nD) (t : Fin cfg0.N) (r : Fin 128) :
    rowD (dist2 (iblk m c 0 t) (iblk m c 1 t) (iblk m c 3 t) (iblk m c 4 t)) r = Rows.D (qs m c) (ps m c) (row t r) := by
  funext k
  unfold rowD
  rw [dist2_apply, iblk_3, iblk_4, V_v13, V_v16, lenCol_apply, lenRow_apply]
  refine congrArg (fun z : EReal => Rows.sq (qs m c) (row t r) - ((2 : ℝ) : EReal) * z + Rows.sq (ps m c) k) ?_
  rw [← sum_padded]
  refine Finset.sum_congr rfl fun j _ => ?_
  rw [iblk_0, iblk_1, V_v2, V_v6, padQ_apply, padT_apply]
  rfl

/-- Row `r` of block `t`'s votes. -/
theorem rowNeg_eq (c : Dev nD) (t : Fin cfg0.N) (r : Fin 128) :
    rowNeg (negMask (F := Ideal) (iblk m c 0 t) (iblk m c 1 t) (iblk m c 2 t)) r = Rows.inside (qs m c) (ps m c) (ns m c) (row t r) := by
  funext k
  unfold rowNeg
  refine propext ((negMask_apply _ _ _ r k).trans ?_)
  have a : ∀ j : Fin 3, (iblk m c 0 t : FVec Ideal S128x8 .f32) (ix2 r (j.castLE (by decide))) = qs m c (row t r) j := fun j => by
    rw [iblk_0, V_v2, padQ_apply, dif_pos (show (j.castLE _ : Fin 8).val < 3 from j.isLt)]; rfl
  have b : ∀ j : Fin 3, (iblk m c 1 t : FVec Ideal S8x8192 .f32) (ix2 (j.castLE (by decide)) k) = ps m c k j := fun j => by
    rw [iblk_1, V_v6, padT_apply, dif_pos (show (j.castLE _ : Fin 8).val < 3 from j.isLt)]; rfl
  have d : ∀ j : Fin 3, (iblk m c 2 t : FVec Ideal S8x8192 .f32) (ix2 (j.castLE (by decide)) k) = ns m c k j := fun j => by
    rw [iblk_2, V_v10, padT_apply, dif_pos (show (j.castLE _ : Fin 8).val < 3 from j.isLt)]; rfl
  unfold Rows.inside Rows.side
  rw [Fin.sum_univ_three, ← a 0, ← a 1, ← a 2, ← b 0, ← b 1, ← b 2, ← d 0, ← d 1, ← d 2]
  exact Iff.rfl

open Classical in
/-- What the body leaves at row `r` of block `t`. -/
theorem outBlk_apply (c : Dev nD) (hq : ∀ i j, ∃ x : ℝ, qs m c i j = x) (hp : ∀ i j, ∃ x : ℝ, ps m c i j = x) (t : Fin cfg0.N) (r : Fin 128) :
    (outBlk m c t : FVec Ideal S128x1 .f32) (ix2 r 0) = Rows.out (qs m c) (ps m c) (ns m c) (row t r) := by
  unfold outBlk
  refine (blockOut_apply _ _ _ _ _ r fun k => ?_).trans ?_
  · rw [rowD_eq]
    exact Rows.D_ne_top hq hp _ _
  · rw [rowD_eq, rowNeg_eq]
    rfl

end Cert.Proof.PI

end
-- ==== Proof.PI.Array.lean ====
/- The kernel's run, read: the result holds, at every query, the signed distance by majority of the eleven nearest points. -/
module

public import proofs.«01_k».proof.Proof.PI.Table
public import Idealize.ShloMosaic.Lib.Pipeline.Value

@[expose] public section

noncomputable section

namespace Cert.Proof.PI

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ) (ρ : Dev nD → PrngReg)

/-- The column the blocks are written back into, and the result. -/
def column (c : Dev nD) : FVec Ideal S8192x1 .f32 := fun i => Rows.out (qs m c) (ps m c) (ns m c) (i 0)
def result (c : Dev nD) : FVec Ideal S8192 .f32 := fun i => Rows.out (qs m c) (ps m c) (ns m c) (i 0)

variable (hq : ∀ c i j, ∃ x : ℝ, qs m c i j = x) (hp : ∀ c i j, ∃ x : ℝ, ps m c i j = x)
include hq hp

/-- What the body leaves at an index of block `t`. -/
theorem outBlk_row (c : Dev nD) (t : Fin cfg0.N) (j : S128x1.Idx) :
    (outBlk m c t : FVec Ideal S128x1 .f32) j = Rows.out (qs m c) (ps m c) (ns m c) (row t (j 0)) := by
  obtain ⟨r, rfl⟩ : ∃ r : Fin 128, j = ix2 r 0 := ⟨j 0, by
    funext a
    match a with
    | ⟨0, _⟩ => rfl
    | ⟨1, _⟩ => exact Subsingleton.elim (α := Fin 1) _ _⟩
  exact outBlk_apply m c (hq c) (hp c) t r

/-- Every point writes back its block of the column. -/
theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after_5]
  funext j
  rw [View.read_apply]
  refine Eq.trans (outBlk_row m hq hp c t j) ?_
  refine Eq.trans ?_ (eq_of_heq (cast_heq _ _)).symm
  refine congrArg (Rows.out (qs m c) (ps m c) (ns m c)) (show row t (j 0) = ((cfg0.win 5).blk t).view.emb j 0 from Fin.ext ?_)
  show 128 * t.val + (j 0).val = win0_5.index t 0 * 128 + 1 * (j 0).val
  rw [(index_5 t).1]
  omega

/-- So the column ends whole: every index lies in the block of its query's point. -/
theorem final_column (c : Dev nD) : (dats m 0 c).arrAt 5 cfg0.N = column m c :=
  (dats m 0 c).arrAt_eq_of_cover 5 (column m c) (fun t _ => flushed_eq m hq hp c t) fun i => by
    have h0 : (i 0 : Nat) < 8192 := (i 0).isLt
    have h1 : (i 1 : Nat) < 1 := (i 1).isLt
    have ht : (i 0 : Nat) / 128 < cfg0.N := by show _ < 64; omega
    refine ⟨⟨(i 0 : Nat) / 128, ht⟩, flush0_5 _, ?_⟩
    show i ∈ ((View.whole main_call0_v17).slice (win0_5.rect ⟨(i 0 : Nat) / 128, ht⟩)).set
    rw [View.set_slice_whole, Rect.mem_set_unit]
    intro a
    match a with
    | ⟨0, _⟩ =>
      show win0_5.index ⟨(i 0 : Nat) / 128, ht⟩ 0 * 128 ≤ (i 0 : Nat) ∧ (i 0 : Nat) < win0_5.index ⟨(i 0 : Nat) / 128, ht⟩ 0 * 128 + 128
      rw [(index_5 _).1]; dsimp only; omega
    | ⟨1, _⟩ =>
      show win0_5.index ⟨(i 0 : Nat) / 128, ht⟩ 1 * 1 ≤ (i 1 : Nat) ∧ (i 1 : Nat) < win0_5.index ⟨(i 0 : Nat) / 128, ht⟩ 1 * 1 + 1
      rw [(index_5 _).2]; omega

/-- The line after the kernel copies the column into the result, flattened. -/
theorem after_result (c : Dev nD) :
    Pipeline.afterTail₀ cfgs (dats m) 0 (V0 m) [hostOps1] c main_v0 = result m c := by
  unfold Pipeline.afterTail₀
  show StableHlo.after hostOps1 _ _ = _
  unfold hostOps1
  after_results_simp
  have e : Pipeline.withArrays (cfgs 0).spec c (V0 m c) (fun w => (dats m 0 c).arrAt w (cfgs 0).N) (Proc.tc.devRef main_call0_v17) = column m c :=
    (Pipeline.withArrays_arr spec0 launch0.win.arr_inj c _ _ 5).trans (final_column m hq hp c)
  rw [e]
  funext i
  exact shapeCast_apply (column m c) shapeCasts_S8192x1_S8192 i (ix2 (i 0) 0) (by
    rw [Shape.rowMajor_val_two, Shape.rowMajor_val_one]
    show (i 0).val * 1 + 0 = (i 0).val
    omega)

/-- Every run ends with the result at `result` and the arguments as they were. -/
theorem run_value :
    θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h.1 c).2 main_v0 (Pipeline.mem_restRefs_of main_v0 (by decide) (by decide))).trans (after_result m hq hp c),
       ((h.1 c).2 main_arg0 (Pipeline.mem_restRefs_of main_arg0 (by decide) (by decide))).trans (W_main_arg0 m (dats m) c),
       ((h.1 c).2 main_arg1 (Pipeline.mem_restRefs_of main_arg1 (by decide) (by decide))).trans (W_main_arg1 m (dats m) c),
       ((h.1 c).2 main_arg2 (Pipeline.mem_restRefs_of main_arg2 (by decide) (by decide))).trans (W_main_arg2 m (dats m) c)⟩)
    (run_main m ρ)

end Cert.Proof.PI

end
-- ==== Proof.RI.Top.lean ====
/- Sorting positions by their distances, the stable way: the first eleven positions of the sorted order are the eleven nearest points, the
   first of them is a nearest one, and the votes among them can be counted slot by slot. -/
module

public import proofs.«01_k».proof.Proof.Spec
public import Idealize.ShloMosaic.Lib.SortFacts

@[expose] public section

noncomputable section

namespace Cert.Proof.RI

open Idealize.ShloMosaic Cert.Proof.Spec

variable {n : ℕ} {d : Fin n → EReal} {B : Fin n → Fin n → Bool}

theorem before_asymm {j k : Fin n} (h : Before d j k) : ¬ Before d k j := by
  rcases h with h | ⟨h, h'⟩
  · rintro (g | ⟨g, -⟩)
    · exact lt_asymm h g
    · exact h.ne g.symm
  · rintro (g | ⟨-, g⟩)
    · exact g.ne h.symm
    · exact lt_asymm h' g

/-- Inserting a position in front of later ones already in order keeps them in order. -/
theorem insert_ordered (hB : ∀ a b, B a b = true ↔ d a < d b) (a : Fin n) (l : List (Fin n)) (ha : ∀ b ∈ l, a < b)
    (hl : l.Pairwise (Before d)) : (insertBefore B a l).Pairwise (Before d) := by
  induction l with
  | nil => exact List.pairwise_singleton _ _
  | cons b l ih =>
    obtain ⟨h1, h2⟩ := List.pairwise_cons.mp hl
    unfold insertBefore
    split
    · rename_i h
      refine List.pairwise_cons.mpr ⟨fun c hc => ?_, ih (fun c hc => ha c (List.mem_cons_of_mem _ hc)) h2⟩
      rcases List.mem_cons.mp ((perm_insertBefore B a l).mem_iff.mp hc) with rfl | hc
      · exact .inl ((hB _ _).mp h)
      · exact h1 c hc
    · rename_i h
      have hab : d a ≤ d b := not_lt.mp fun g => h ((hB _ _).mpr g)
      refine List.pairwise_cons.mpr ⟨fun c hc => ?_, hl⟩
      have hbc : d b ≤ d c := by
        rcases List.mem_cons.mp hc with rfl | hc
        · exact le_rfl
        · exact (h1 c hc).elim (fun g => g.le) fun g => g.1.le
      rcases (hab.trans hbc).lt_or_eq with g | g
      · exact .inl g
      · exact .inr ⟨g, ha c hc⟩

/-- The stable sort of positions in their own order puts them in the order of distance, then position. -/
theorem sort_ordered (hB : ∀ a b, B a b = true ↔ d a < d b) (l : List (Fin n)) (hl : l.Pairwise (· < ·)) :
    (stableSort B l).Pairwise (Before d) := by
  induction l with
  | nil => exact List.Pairwise.nil
  | cons a l ih =>
    obtain ⟨h1, h2⟩ := List.pairwise_cons.mp hl
    unfold stableSort
    exact insert_ordered hB a _ (fun b hb => h1 b ((perm_stableSort B l).mem_iff.mp hb)) (ih h2)

/-- An earlier slot of the sort holds a position coming before a later slot's. -/
theorem sorted_before (hB : ∀ a b, B a b = true ↔ d a < d b) (i j : Fin n) (hij : i < j) :
    Before d (sortedFrom B i) (sortedFrom B j) := by
  have h : ∀ a b : Fin (sortPositions n B).length, a < b → Before d ((sortPositions n B).get a) ((sortPositions n B).get b) :=
    List.pairwise_iff_get.mp (sort_ordered hB (List.finRange n) (List.pairwise_lt_finRange n))
  unfold sortedFrom
  exact h _ _ (by simp only [Fin.lt_def, Fin.val_cast]; exact hij)

/-- The first slot holds a nearest position. -/
theorem first_eq_inf (hB : ∀ a b, B a b = true ↔ d a < d b) (z : Fin n) (hz : z.val = 0) :
    d (sortedFrom B z) = Finset.univ.inf d := by
  refine le_antisymm (Finset.le_inf fun j _ => ?_) (Finset.inf_le (Finset.mem_univ _))
  obtain ⟨i, rfl⟩ := sortedFrom_surjective B j
  rcases eq_or_ne z i with rfl | h
  · exact le_rfl
  · exact (sorted_before hB z i (Fin.lt_def.mpr (by have : z.val ≠ i.val := fun e => h (Fin.ext e); omega))).elim
      (fun g => g.le) fun g => g.1.le

variable (hn : 11 ≤ n)

/-- Different slots of the first eleven hold different positions. -/
theorem slot_injective : Function.Injective fun t : Fin 11 => sortedFrom B (t.castLE hn) :=
  (sortedFrom_injective B).comp (Fin.castLE_injective hn)

open Classical in
/-- The first eleven slots hold the eleven nearest positions. -/
theorem image_eq_nearest11 (hB : ∀ a b, B a b = true ↔ d a < d b) :
    (Finset.univ.image fun t : Fin 11 => sortedFrom B (t.castLE hn)) = nearest11 d := by
  refine eq_nearest11 (fun k hk j hj => ?_) ?_
  · obtain ⟨t, -, rfl⟩ := Finset.mem_image.mp hk
    obtain ⟨i, rfl⟩ := sortedFrom_surjective B j
    by_cases hi : i.val < 11
    · exact Finset.mem_image.mpr ⟨⟨i, hi⟩, Finset.mem_univ _, rfl⟩
    · exact absurd hj (before_asymm (sorted_before hB _ _ (Fin.lt_def.mpr (by rw [Fin.val_castLE]; omega))))
  · rw [Finset.card_image_of_injective _ (slot_injective hn), Finset.card_univ, Fintype.card_fin]

open Classical in
/-- The votes of the eleven nearest, counted slot by slot. -/
theorem votes_eq (hB : ∀ a b, B a b = true ↔ d a < d b) (neg : Fin n → Prop) :
    votes d neg = (Finset.univ.filter fun t : Fin 11 => neg (sortedFrom B (t.castLE hn))).card := by
  unfold votes
  rw [← image_eq_nearest11 hn hB, Finset.filter_image,
    Finset.card_image_of_injective _ (slot_injective hn)]

end Cert.Proof.RI

end
-- ==== Proof.RI.TopK.lean ====
/- A top-k of the rows of a matrix, entry by entry: entry `(i, t)` of the values is the row's entry at the position the stable sort of the
   row puts in slot `t`, and entry `(i, t)` of the indices is that position. And a gather of whole rows of a matrix, entry by entry. -/
module

public import Idealize.ShloMosaic.Lib.Pointwise
public import Idealize.ShloMosaic.Lib.SortFacts

@[expose] public section

noncomputable section

namespace Cert.Proof.RI

open Idealize.ShloMosaic

section TopK

variable {α : Type} {a b k : ℕ}

/-- Which of two positions of row `i` the sort puts first. -/
def rowBefore (gt : α → α → BitVec 1) (x : (⟨2, ![a, b]⟩ : Shape).Idx → α) (i : Fin a) (j j' : Fin b) : Bool :=
  gt (x (ix2 i j)) (x (ix2 i j')) == 1#1

/-- The position of row `i` in slot `t`. -/
def rowSlot (gt : α → α → BitVec 1) (x : (⟨2, ![a, b]⟩ : Shape).Idx → α) (hk : k ≤ b) (i : Fin a) (t : Fin k) : Fin b :=
  sortedFrom (rowBefore gt x i) (t.castLE hk)

theorem along_ix2 (j : (⟨2, ![a, b]⟩ : Shape).Idx) (h : 1 < (⟨2, ![a, b]⟩ : Shape).rank) (l : Fin b) :
    Shape.Idx.along (s := ⟨2, ![a, b]⟩) j ⟨1, h⟩ l = ix2 (j 0) l := by
  funext c
  match c with
  | ⟨0, _⟩ => exact Function.update_of_ne (by simp [Fin.ext_iff]) _ _
  | ⟨1, _⟩ => exact Function.update_self _ _ _

/-- A sort of the rows carrying a second array: both results' entries, by slot. -/
theorem sort2_apply {β : Type} (gt : α → α → BitVec 1) (x : (⟨2, ![a, b]⟩ : Shape).Idx → α) (y : (⟨2, ![a, b]⟩ : Shape).Idx → β)
    (i : Fin a) (l : Fin b) :
    (Host.sort2 ⟨2, ![a, b]⟩ 1 (fun l r => gt l.1 r.1) x y).1 (ix2 i l) = x (ix2 i (sortedFrom (rowBefore gt x i) l))
      ∧ (Host.sort2 ⟨2, ![a, b]⟩ 1 (fun l r => gt l.1 r.1) x y).2 (ix2 i l) = y (ix2 i (sortedFrom (rowBefore gt x i) l)) := by
  have h : 1 < (⟨2, ![a, b]⟩ : Shape).rank := by show 1 < 2; omega
  unfold Host.sort2
  rw [dif_pos h]
  refine ⟨?_, ?_⟩
  all_goals
    refine (congrArg _ (along_ix2 (ix2 i l) h _)).trans ?_
    refine congrArg _ (congrArg (ix2 i) (congrArg (fun B => sortedFrom B l) ?_))
    funext p p'
    unfold rowBefore
    exact congrArg₂ (fun u v => gt (x u) (x v) == 1#1) (along_ix2 _ h p) (along_ix2 _ h p')

theorem slice_ix2 (h : (⟨2, ![a, b]⟩ : Shape).Slices (fun _ => 0) ⟨2, ![a, k]⟩) (hk : k ≤ b) {β : Type} (y : (⟨2, ![a, b]⟩ : Shape).Idx → β)
    (i : Fin a) (t : Fin k) : extractStridedSlice ⟨2, ![a, k]⟩ (fun _ => 0) y h (ix2 i t) = y (ix2 i (t.castLE hk)) := by
  unfold extractStridedSlice
  refine congrArg y (funext fun c => Fin.ext ?_)
  match c with
  | ⟨0, _⟩ => exact Nat.zero_add _
  | ⟨1, _⟩ => exact Nat.zero_add _

/-- The values of a top-k. -/
theorem topK_fst (gt : α → α → BitVec 1) (x : (⟨2, ![a, b]⟩ : Shape).Idx → α) (hk : k ≤ b)
    (h : (⟨2, ![a, b]⟩ : Shape).Slices (fun _ => 0) ⟨2, ![a, k]⟩) (i : Fin a) (t : Fin k) :
    (Host.topK ⟨2, ![a, k]⟩ 1 gt x h).1 (ix2 i t) = x (ix2 i (rowSlot gt x hk i t)) := by
  unfold Host.topK
  dsimp only
  refine (slice_ix2 h hk _ i t).trans ?_
  exact (sort2_apply gt x _ i _).1

/-- The indices of a top-k. -/
theorem topK_snd (gt : α → α → BitVec 1) (x : (⟨2, ![a, b]⟩ : Shape).Idx → α) (hk : k ≤ b)
    (h : (⟨2, ![a, b]⟩ : Shape).Slices (fun _ => 0) ⟨2, ![a, k]⟩) (i : Fin a) (t : Fin k) :
    (Host.topK ⟨2, ![a, k]⟩ 1 gt x h).2 (ix2 i t) = BitVec.ofNat 32 (rowSlot gt x hk i t).val := by
  unfold Host.topK
  dsimp only
  refine (slice_ix2 h hk _ i t).trans ?_
  exact (sort2_apply gt x _ i _).2.trans (dif_pos (show 1 < 2 by omega))

end TopK

section Gather

variable {α : Type} {r c e k : ℕ}

/-- A gather of whole rows at a table of row numbers, each in range: entry `(i, t, j)` is the entry `j` of the row numbered by `(i, t)`. -/
theorem gather_rows (g : GatherDims ⟨2, ![r, c]⟩ ⟨3, ![e, k, 1]⟩ ⟨3, ![e, k, c]⟩) (ho : g.offsetDims = [2]) (hc : g.collapsedSliceDims = [0])
    (hb : g.operandBatchingDims = []) (hm : g.startIndexMap = [0]) (hv : g.indexVectorDim = 2)
    (x : (⟨2, ![r, c]⟩ : Shape).Idx → α) (idx : IVec ⟨3, ![e, k, 1]⟩ 32) (i : Fin e) (t : Fin k) (j : Fin c) (w : Fin r)
    (hw : (idx (ix3 i t 0)).toInt = w.val) : Host.gather g x idx (ix3 i t j) = x (ix2 w j) := by
  obtain ⟨od, cs, ob, sb, sm, iv, ss, wf⟩ := g
  simp only at ho hc hb hm hv
  subst ho hc hb hm hv
  unfold Host.gather
  refine congrArg x (funext fun y => Fin.ext ?_)
  set g : GatherDims ⟨2, ![r, c]⟩ ⟨3, ![e, k, 1]⟩ ⟨3, ![e, k, c]⟩ := ⟨[2], [0], [], sb, [0], 2, ss, wf⟩ with hg
  have hbat : ∀ y, g.batchCoord (ix3 i t j) y = 0 := fun y => g.batchCoord_eq_zero _ _ List.not_mem_nil
  show g.start (ix3 i t j) idx y + g.batchCoord (ix3 i t j) y + g.offCoord (ix3 i t j) y = _
  rw [hbat, Nat.add_zero]
  match y with
  | ⟨0, _⟩ =>
    have hk : (0 : Fin 2) ∉ g.sKept := by rw [GatherDims.mem_sKept]; exact fun h => h.1 (List.mem_singleton.mpr rfl)
    have hmem : (0 : Fin 2) ∈ g.startIndexMap := List.mem_singleton.mpr rfl
    have hsl : g.sliceSizes 0 = 1 := g.slice_collapsed 0 (List.mem_singleton.mpr rfl)
    refine (congrArg₂ (· + ·) ?_ (g.offCoord_eq_zero _ _ hk)).trans (Nat.add_zero w.val)
    unfold GatherDims.start
    refine (dif_pos hmem).trans ?_
    have hix : ∀ z, g.siIdx (ix3 i t j) z = ix3 i t 0 := fun z => by
      funext b
      match b with
      | ⟨0, _⟩ => exact Fin.ext rfl
      | ⟨1, _⟩ => exact Fin.ext rfl
      | ⟨2, _⟩ => exact Subsingleton.elim (α := Fin 1) _ _
    rw [hix, hw]
    show min (Int.toNat w.val) (r - g.sliceSizes 0) = w.val
    rw [hsl]
    have := w.isLt
    omega
  | ⟨1, _⟩ =>
    have hmem : (1 : Fin 2) ∉ g.startIndexMap := fun h => (by decide : (1 : Fin 2) ≠ 0) (List.mem_singleton.mp h)
    refine (congrArg₂ (· + ·) (?_ : _ = 0) (?_ : _ = j.val)).trans (Nat.zero_add _)
    · unfold GatherDims.start; exact dif_neg hmem
    · rfl

end Gather

end Cert.Proof.RI

end
-- ==== Proof.RI.Stages.lean ====
/- The reference's lines, stage by stage, and its composed result as one term of them; then the entries of the stages up to the sort. -/
module

public import proofs.«01_k».proof.Proof.RI.Top
public import proofs.«01_k».proof.Proof.RI.TopK
public import proofs.«01_k».proof.Proof.Rows
public import proofs.«01_k».proof.Proof.Gen.ReferenceIdeal.Run
public import Idealize.ShloMosaic.Lib.Pointwise
public import Idealize.ShloMosaic.Lib.WordCmp
public import Idealize.ShloMosaic.PureOps.Ideal.Laws

@[expose] public section

noncomputable section

namespace Cert.Proof.RI

open Cert.ReferenceIdeal Cert.ReferenceIdeal.Gen
open Idealize.ShloMosaic Idealize.ShloMosaic.TcCoe
open Idealize.SL.Sem

variable {F : FTy → Type} [FloatOps F]

/-! ## The stages -/

/-- The squared distances, queries down and points across. -/
def dist (q p : FVec F S8192x3 .f32) : FVec F S8192x8192 .f32 :=
  addf (subf (broadcastInDim S8192x8192 ![0, 1] bcast_S8192x1_S8192x8192_0_1 (broadcastInDim S8192x1 ![0] bcast_S8192_S8192x1_0
      (Host.reduceAdd (mulf q q) (constant S_ .f32 0x00000000#32) reducesTo_S8192x3_S8192_d1 h_S_)))
    (mulf (broadcastInDim S8192x8192 ![] bcast_S_S8192x8192 (constant S_ .f32 0x40000000#32))
      (Host.dotGeneral dot_S8192x3_S3x8192_S8192x8192_1_0_0_1_n_n none q (transpose S3x8192 [1, 0] p transposes_S8192x3_S3x8192_1_0))))
    (broadcastInDim S8192x8192 ![0, 1] bcast_S1x8192_S8192x8192_0_1 (broadcastInDim S1x8192 ![1] bcast_S8192_S1x8192_1
      (Host.reduceAdd (mulf p p) (constant S_ .f32 0x00000000#32) reducesTo_S8192x3_S8192_d1 h_S_)))

/-- The eleven greatest of the negated distances, and their indices. -/
def top (q p : FVec F S8192x3 .f32) : FVec F S8192x11 .f32 × IVec S8192x11 32 :=
  Host.topK S8192x11 1 (FloatOps.cmpfTotal .gt) (Host.negf (dist q p)) sliceFits_S8192x8192_S8192x11

/-- The indices as the gathers take them: a negative one would count from the end. -/
def starts (v : IVec S8192x11 32) : IVec S8192x11x1 32 :=
  broadcastInDim S8192x11x1 ![0, 1] bcast_S8192x11_S8192x11x1_0_1
    (select (cmpi .slt v (broadcastInDim S8192x11 ![] bcast_S_S8192x11 (constantI S_ 32 0#32)))
      (addi v (broadcastInDim S8192x11 ![] bcast_S_S8192x11 (constantI S_ 32 8192#32))) v)

/-- The rows of `x` at those indices. -/
def take (x : FVec F S8192x3 .f32) (v : IVec S8192x11 32) : FVec F S8192x11x3 .f32 :=
  Host.gather gather_S8192x3_S8192x11x1_S8192x11x3_2_0_n_n_0_2_13 x (starts v)

/-- The votes: one where the query lies inside the tangent plane at the taken point. -/
def voted (q p n : FVec F S8192x3 .f32) : IVec S8192x11 1 :=
  cmpf .olt (Host.dotGeneral dot_S8192x11x3_S8192x11x3_S8192x11_2_2_n_n_01_01 none
      (subf (broadcastInDim S8192x11x3 ![0, 1, 2] bcast_S8192x1x3_S8192x11x3_0_1_2 (broadcastInDim S8192x1x3 ![0, 2] bcast_S8192x3_S8192x1x3_0_2 q))
        (take p (top q p).2)) (take n (top q p).2))
    (broadcastInDim S8192x11 ![] bcast_S_S8192x11 (constant S_ .f32 0x00000000#32))

/-- The number of votes. -/
def counted (b : IVec S8192x11 1) : IVec S8192 32 :=
  Host.reduce IntOp.addi (extui 32 b natLt_1_32) (constantI S_ 32 0#32) reducesTo_S8192x11_S8192_d1 h_S_

/-- The distance to the nearest point. -/
def near (t : FVec F S8192x11 .f32) : FVec F S8192 .f32 :=
  shapeCast _ (extractStridedSlice S8192x1 ![0, 0] (Host.sqrt (maximumf (Host.negf t)
    (broadcastInDim S8192x11 ![] bcast_S_S8192x11 (constant S_ .f32 0x00000000#32)))) slices_S8192x11_S8192x1_0_0) shapeCasts_S8192x1_S8192

/-- The signed distance. -/
def signed (q p n : FVec F S8192x3 .f32) : FVec F S8192 .f32 :=
  select (cmpf .ogt (sitofp .f32 (counted (voted q p n)) : FVec F S8192 .f32) (broadcastInDim S8192 ![] bcast_S_S8192 (constant S_ .f32 0x40B00000#32)))
    (Host.negf (near (top q p).1)) (near (top q p).1)

set_option maxRecDepth 8192 in
/-- The reference's result is the signed distance of its arguments. -/
theorem res_eq (m : (ℓ : Loc nD τ sig) → Buf (Elt F) ℓ) (c : Dev nD) :
    Value.res_main_v47 m c = signed (F := F) (m ((c.tc : Thread nD τ).loc main_arg0)) (m ((c.tc : Thread nD τ).loc main_arg1)) (m ((c.tc : Thread nD τ).loc main_arg2)) := rfl

/-! ## The distances' entries, and the sorted order of a row -/

/-- An array of 8192 rows of three, as a function of row and column. -/
def rows (x : FVec Ideal S8192x3 .f32) (i : Fin 8192) (j : Fin 3) : EReal := x (ix2 i j)

/-- An entry of the squared distances is the table's. -/
theorem dist_apply (q p : FVec Ideal S8192x3 .f32) (i k : Fin 8192) : dist q p (ix2 i k) = Rows.D (rows q) (rows p) i k := by
  unfold Rows.D Rows.sq rows
  rw [← Consts.two_eq]
  pointwise [dist]

/-- Which of two points of row `i` the sort puts first: the nearer. -/
def nearer (q p : FVec Ideal S8192x3 .f32) (i : Fin 8192) : Fin 8192 → Fin 8192 → Bool :=
  rowBefore (FloatOps.cmpfTotal .gt) (Host.negf (dist q p)) i

/-- Negating a greater than a negated one is being less. -/
theorem gt_neg_iff (x y : Ideal .f32) :
    FloatOps.cmpfTotal .gt (FloatOps.negf x : Ideal .f32) (FloatOps.negf y) = 1#1 ↔ (x : EReal) < y := by
  rw [Ideal.cmpfTotal_def]
  exact (WordCmp.ofBool_decide_eq_one_iff _).trans EReal.neg_lt_neg_iff

theorem nearer_iff (q p : FVec Ideal S8192x3 .f32) (i a b : Fin 8192) :
    nearer q p i a b = true ↔ Rows.D (rows q) (rows p) i a < Rows.D (rows q) (rows p) i b := by
  rw [← dist_apply, ← dist_apply]
  unfold nearer rowBefore
  rw [beq_iff_eq]
  exact gt_neg_iff _ _

/-- The point in slot `t` of query `i`. -/
def slot (q p : FVec Ideal S8192x3 .f32) (i : Fin 8192) (t : Fin 11) : Fin 8192 :=
  sortedFrom (nearer q p i) (t.castLE (by decide))

/-- The values of the top eleven: the negated distances of the points in the slots. -/
theorem top_fst (q p : FVec Ideal S8192x3 .f32) (i : Fin 8192) (t : Fin 11) :
    (top q p).1 (ix2 i t) = -(Rows.D (rows q) (rows p) i (slot q p i t)) := by
  rw [← dist_apply]
  exact topK_fst (k := 11) _ _ (by decide) _ i t

/-- The indices of the top eleven: the points in the slots. -/
theorem top_snd (q p : FVec Ideal S8192x3 .f32) (i : Fin 8192) (t : Fin 11) :
    (top q p).2 (ix2 i t) = BitVec.ofNat 32 (slot q p i t).val :=
  topK_snd (k := 11) _ _ (by decide) _ i t

end Cert.Proof.RI

end
-- ==== Proof.RI.Value.lean ====
/- The reference's result, entry by entry: at query `i`, what the table of distances and votes decides. -/
module

public import proofs.«01_k».proof.Proof.RI.Stages
public import proofs.«01_k».proof.Proof.PI.Fast
public import Idealize.ShloMosaic.Lib.StableHlo.Predicate

@[expose] public section

noncomputable section

namespace Cert.Proof.RI

open Cert.ReferenceIdeal Cert.ReferenceIdeal.Gen
open Idealize.ShloMosaic Idealize.ShloMosaic.TcCoe
open Idealize.SL.Sem

/-- A word that is not negative is taken as it is. -/
theorem starts_apply (v : IVec S8192x11 32) (i : Fin 8192) (t : Fin 11) (w : ℕ) (hw : w < 8192) (hv : v (ix2 i t) = BitVec.ofNat 32 w) :
    starts v (ix3 i t 0) = BitVec.ofNat 32 w := by
  have h : IntOp.cmpi .slt (BitVec.ofNat 32 w) 0#32 ≠ 1#1 := fun e =>
    absurd ((WordCmp.cmpi_slt_ofNat_eq_one_iff (by omega) (by omega)).mp e) (by omega)
  pointwise [starts]
  rw [hv]
  exact if_neg h

/-- An entry of the taken rows. -/
theorem take_apply (x : FVec Ideal S8192x3 .f32) (v : IVec S8192x11 32) (i : Fin 8192) (t : Fin 11) (j : Fin 3) (w : Fin 8192)
    (hv : v (ix2 i t) = BitVec.ofNat 32 w.val) : take x v (ix3 i t j) = rows x w j := by
  unfold take
  refine gather_rows _ rfl rfl rfl rfl rfl x (starts v) i t j w ?_
  rw [starts_apply v i t w.val w.isLt hv, WordCmp.toInt_ofNat_of_lt (by have := w.isLt; omega)]

/-- The vote in slot `t` of query `i` is the point's in that slot. -/
theorem voted_iff (q p n : FVec Ideal S8192x3 .f32) (i : Fin 8192) (t : Fin 11) :
    voted q p n (ix2 i t) = 1#1 ↔ Rows.inside (rows q) (rows p) (rows n) i (slot q p i t) := by
  have hp : ∀ j, take p (top q p).2 (ix3 i t j) = rows p (slot q p i t) j := fun j => take_apply p _ i t j _ (top_snd q p i t)
  have hn : ∀ j, take n (top q p).2 (ix3 i t j) = rows n (slot q p i t) j := fun j => take_apply n _ i t j _ (top_snd q p i t)
  unfold Rows.inside Rows.side
  pointwise [voted]
  rw [WordCmp.ofBool_decide_eq_one_iff]
  simp only [hp, hn]
  exact Iff.rfl

open Classical in
/-- The number of votes at query `i`. -/
theorem counted_apply (q p n : FVec Ideal S8192x3 .f32) (i : Fin 8192) :
    (counted (voted q p n) (ix1 i)).toNat = Spec.votes (Rows.D (rows q) (rows p) i) (Rows.inside (rows q) (rows p) (rows n) i) := by
  rw [votes_eq (n := 8192) (by decide) (nearer_iff q p i)]
  unfold counted
  refine (StableHlo.Predicate.toNat_reduce_count_cols (by decide) _ _ _ _ _).trans ?_
  refine congrArg Finset.card (Finset.filter_congr fun t _ => ?_)
  exact (Iff.of_eq (congrArg (fun z => voted q p n z = 1#1) (funext fun a => by match a with | ⟨0, _⟩ => rfl | ⟨1, _⟩ => rfl))).trans
    (voted_iff q p n i t)

/-- The distance to the nearest point. -/
theorem near_apply (q p : FVec Ideal S8192x3 .f32) (i : Fin 8192) :
    near (top q p).1 (ix1 i) = Ideal.sqrt (max (Finset.univ.inf (Rows.D (rows q) (rows p) i)) 0) := by
  have h := top_fst q p i 0
  rw [slot, first_eq_inf (nearer_iff q p i) _ rfl] at h
  pointwise [near]
  rw [h, neg_neg]

/-- The reference's result at query `i`. -/
theorem signed_apply (q p n : FVec Ideal S8192x3 .f32) (i : Fin 8192) :
    signed q p n (ix1 i) = Rows.out (rows q) (rows p) (rows n) i := by
  have h := near_apply q p i
  have hc := counted_apply q p n i
  unfold Rows.out Spec.value
  pointwise [signed]
  have hlt : (counted (voted q p n) (ix1 i)).toNat < 2 ^ 31 := by
    rw [hc]
    refine lt_of_le_of_lt (Finset.card_le_univ _) ?_
    rw [Fintype.card_fin]
    norm_num
  have hs : (FloatOps.sitofp FTy.f32 (counted (voted q p n) (ix1 i)) : Ideal .f32)
      = (((Spec.votes (Rows.D (rows q) (rows p) i) (Rows.inside (rows q) (rows p) (rows n) i) : ℕ) : ℝ) : EReal) := by
    rw [← hc]
    show (((counted (voted q p n) (ix1 i)).toInt : ℝ) : EReal) = _
    rw [BitVec.toInt_eq_toNat_of_lt (by omega)]
    push_cast
    rfl
  rw [hs, h, zero_sub]
  exact if_congr (PI.six_le_iff _) rfl rfl

end Cert.Proof.RI

end
-- ==== Proof.Equation.lean ====
/- The value claim: under the precondition the kernel's result and the reference's are the same array, what the table of distances and votes
   decides at each query; and the frames once more, under the precondition. -/
module

public import proofs.«01_k».proof.Proof.Frames
public import proofs.«01_k».proof.Proof.Finite
public import proofs.«01_k».proof.Proof.PI.Array
public import proofs.«01_k».proof.Proof.RI.Value

@[expose] public section

noncomputable section

namespace Cert.Proof

open Idealize.ShloMosaic Idealize.ShloMosaic.TcCoe Idealize.SL.Sem

/-- The frame of the idealized kernel, under the precondition too. -/
theorem frame_kernelIdeal_pre [hPre : Cert.Pre_finite_points.Facts] : Cert.quiescent_KernelIdeal_pre_finite_points :=
  fun m ρ _ => frame_kernelIdeal m ρ trivial

/-- The frame of the reference, under the precondition too. -/
theorem frame_referenceIdeal_pre [hPre : Cert.Pre_finite_points.Facts] : Cert.quiescent_ReferenceIdeal_pre_finite_points :=
  fun m ρ _ => frame_referenceIdeal m ρ trivial

/-- The reference's result is the kernel's, when their arguments agree. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v47 m' c = PI.result m c := by
  refine (RI.res_eq m' c).trans (funext fun i => ?_)
  rw [h0, h1, h2]
  have hi : i = ix1 (i 0) := funext fun a => by match a with | ⟨0, _⟩ => rfl
  refine (congrArg _ hi).trans ((RI.signed_apply _ _ _ (i 0)).trans ?_)
  rfl

/-- Under the precondition the kernel and the reference return the same array. -/
theorem equation [hPre : Cert.Pre_finite_points.Facts] : Cert.algebraic_KernelIdeal_ReferenceIdeal_pre_finite_points := fun m g m' g' hpre hargs => by
  have hq : ∀ c i j, ∃ x : ℝ, PI.qs m c i j = x := fun c i j => (Finite.real_of_pre _ _ _ (hpre c)).1 (ix2 i j)
  have hp : ∀ c i j, ∃ x : ℝ, PI.ps m c i j = x := fun c i j => (Finite.real_of_pre _ _ _ (hpre c)).2 (ix2 i j)
  refine ⟨fun c => PI.result m c, PI.run_value m g hq hp, ?_⟩
  refine (θ_run Cert.ReferenceIdeal.defs _ _).mono (fun r h c => ⟨(h c).1.trans ?_, (h c).2⟩) (Cert.ReferenceIdeal.Value.run (F := Ideal) m' g')
  exact reference_result m m' c (hargs c).1 (hargs c).2.1 (hargs c).2.2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate's claims, all seven. -/
theorem claim : Cert.Claim :=
  ⟨Cert.Kernel.Gen.facts, Cert.KernelIdeal.Gen.facts, Cert.ReferenceIdeal.Gen.facts, Finite.facts, frame_kernel, frame_kernelIdeal,
    frame_kernelIdeal_pre (hPre := Finite.facts), frame_referenceIdeal, frame_referenceIdeal_pre (hPre := Finite.facts), trivial,
    equation (hPre := Finite.facts)⟩

end Cert.Proof

end
